-- ==== Defs.lean ====
def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)
      ∧ m' ((c.tc : Thread Cert.WeightRefIdeal.nD Cert.WeightRefIdeal.τ).loc Cert.WeightRefIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v0_0)) (v1 : (c : Dev Cert.WeightIdeal.nD) → Buf (Elt Ideal) ((c.tc : Thread Cert.WeightIdeal.nD Cert.WeightIdeal.τ).loc Cert.WeightIdeal.main_v0_1)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0_0) = v0 c
          ∧ r.2.mem ((c.tc : Thread Cert.WeightIdeal.nD Cert.WeightIdeal.τ).loc Cert.WeightIdeal.main_v0_1) = v1 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v0_0) = v0 c
          ∧ r.2.mem ((c.tc : Thread Cert.WeightRefIdeal.nD Cert.WeightRefIdeal.τ).loc Cert.WeightRefIdeal.main_v0_1) = v1 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)) (v8 : (c : Dev Cert.KernelIdeal.nD) → Buf (Elt Ideal) ((c.tc : Thread Cert.KernelIdeal.nD Cert.KernelIdeal.τ).loc Cert.KernelIdeal.main_v3_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_v3_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_v3_7) = v7 c
          ∧ r.2.mem ((c.tc : Thread Cert.ReferenceIdeal.nD Cert.ReferenceIdeal.τ).loc Cert.ReferenceIdeal.main_v3_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hWeight : Cert.Weight.Facts) (hWeightIdeal : Cert.WeightIdeal.Facts) (hWeightRefIdeal : Cert.WeightRefIdeal.Facts) (hKernel : Cert.Kernel.Facts) (hKernelIdeal : Cert.KernelIdeal.Facts) (hReferenceIdeal : Cert.ReferenceIdeal.Facts),
    quiescent_Weight (hWeight := hWeight)
    ∧ quiescent_WeightIdeal (hWeightIdeal := hWeightIdeal)
    ∧ quiescent_WeightRefIdeal (hWeightRefIdeal := hWeightRefIdeal)
    ∧ quiescent_Kernel (hKernel := hKernel)
    ∧ quiescent_KernelIdeal (hKernelIdeal := hKernelIdeal)
    ∧ quiescent_ReferenceIdeal (hReferenceIdeal := hReferenceIdeal)
    ∧ preserves_Weight_WeightIdeal
    ∧ algebraic_WeightIdeal_WeightRefIdeal (hWeightIdeal := hWeightIdeal) (hWeightRefIdeal := hWeightRefIdeal)
    ∧ preserves_Kernel_KernelIdeal
    ∧ algebraic_KernelIdeal_ReferenceIdeal (hKernelIdeal := hKernelIdeal) (hReferenceIdeal := hReferenceIdeal)
-- ==== Weight.lean ====
abbrev S2048x4096 : Shape := ⟨2, ![2048, 4096]⟩
abbrev S3x16 : Shape := ⟨2, ![3, 16]⟩
abbrev S1x1 : Shape := ⟨2, ![1, 1]⟩
abbrev S256x4096 : Shape := ⟨2, ![256, 4096]⟩
abbrev S16x4096 : Shape := ⟨2, ![16, 4096]⟩
abbrev S1x16 : Shape := ⟨2, ![1, 16]⟩
abbrev S1 : Shape := ⟨1, ![1]⟩
abbrev S1x16x4096 : Shape := ⟨3, ![1, 16, 4096]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S3x16, .f32⟩
  | .hbm, ⟨2, _⟩ => ⟨S2048x4096, .fp8e4m3⟩
  | .hbm, ⟨3, _⟩ => ⟨S1x1, .f32⟩
  | .local _ .vmem, ⟨0, _⟩ => ⟨S3x16, .f32⟩
  | .local _ .vmem, ⟨1, _⟩ => ⟨S256x4096, .bf16⟩
  | .local _ .vmem, ⟨2, _⟩ => ⟨S256x4096, .bf16⟩
  | .local _ .vmem, ⟨3, _⟩ => ⟨S256x4096, .fp8e4m3⟩
  | .local _ .vmem, ⟨4, _⟩ => ⟨S256x4096, .fp8e4m3⟩
  | .local _ .vmem, ⟨5, _⟩ => ⟨S1x1, .f32⟩
  | .local _ .vmem, ⟨6, _⟩ => ⟨S16x4096, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v148 : BitVec 1 := Scalar.cmpi .eq arg0 c7_i32
  let v149 : BitVec 32 := Scalar.extui v148
  let c0_i32_42 : BitVec 32 := 0#32
  let v150 : BitVec 1 := Scalar.cmpi .ne v149 c0_i32_42
  v150

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== WeightRefIdeal.lean ====
abbrev S2048x4096 : Shape := ⟨2, ![2048, 4096]⟩
abbrev S3x16 : Shape := ⟨2, ![3, 16]⟩
abbrev S1x1 : Shape := ⟨2, ![1, 1]⟩
abbrev S1x16 : Shape := ⟨2, ![1, 16]⟩
abbrev S1 : Shape := ⟨1, ![1]⟩
abbrev S1x254 : Shape := ⟨2, ![1, 254]⟩
abbrev S1x2048x4096 : Shape := ⟨3, ![1, 2048, 4096]⟩
abbrev S1x1x1 : Shape := ⟨3, ![1, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S2048x4096, .bf16⟩
  | .hbm, ⟨1, _⟩ => ⟨S3x16, .f32⟩
  | .hbm, ⟨2, _⟩ => ⟨S2048x4096, .fp8e4m3⟩
  | .hbm, ⟨3, _⟩ => ⟨S1x1, .f32⟩
  | .local _ .vmem, ⟨0, _⟩ => ⟨S2048x4096, .bf16⟩
  | .local _ .vmem, ⟨1, _⟩ => ⟨S3x16, .f32⟩
  | .local _ .vmem, ⟨2, _⟩ => ⟨S2048x4096, .fp8e4m3⟩
  | .local _ .vmem, ⟨3, _⟩ => ⟨S1x1, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Kernel.lean ====
abbrev S6x4096x2048 : Shape := ⟨3, ![6, 4096, 2048]⟩
abbrev S6x4096x4096 : Shape := ⟨3, ![6, 4096, 4096]⟩
abbrev S2048x4096 : Shape := ⟨2, ![2048, 4096]⟩
abbrev S3x16 : Shape := ⟨2, ![3, 16]⟩
abbrev S1x1 : Shape := ⟨2, ![1, 1]⟩
abbrev S_ : Shape := ⟨0, ![]⟩
abbrev S1 : Shape := ⟨1, ![1]⟩
abbrev S24576x2048 : Shape := ⟨2, ![24576, 2048]⟩
abbrev S24576x4096 : Shape := ⟨2, ![24576, 4096]⟩
abbrev S256x2048 : Shape := ⟨2, ![256, 2048]⟩
abbrev S256x4096 : Shape := ⟨2, ![256, 4096]⟩
abbrev S16x2048 : Shape := ⟨2, ![16, 2048]⟩
abbrev S16x4096 : Shape := ⟨2, ![16, 4096]⟩
abbrev S1x16 : Shape := ⟨2, ![1, 16]⟩
abbrev S1x16x2048 : Shape := ⟨3, ![1, 16, 2048]⟩
abbrev S1x1x1 : Shape := ⟨3, ![1, 1, 1]⟩
abbrev S1x16x4096 : Shape := ⟨3, ![1, 16, 4096]⟩

abbrev nBuf : Space → Nat
  | .hbm => 18
  | .vmem => 22
  | .smem => 1
  | _ => 0

abbrev bufTy : (tb : Table) → Fin (tcTables nBuf tb) → BufTy
  | .hbm, ⟨0, _⟩ => ⟨S6x4096x2048, .bf16⟩
  | .hbm, ⟨1, _⟩ => ⟨S6x4096x4096, .bf16⟩
  | .hbm, ⟨2, _⟩ => ⟨S2048x4096, .fp8e4m3⟩
  | .hbm, ⟨3, _⟩ => ⟨S3x16, .f32⟩
  | .hbm, ⟨4, _⟩ => ⟨S1x1, .f32⟩
  | .hbm, ⟨5, _⟩ => ⟨S_, .i32⟩
  | .hbm, ⟨6, _⟩ => ⟨S1, .i32⟩
  | .hbm, ⟨7, _⟩ => ⟨S24576x2048, .bf16⟩
  | .hbm, ⟨8, _⟩ => ⟨S24576x4096, .bf16⟩
  | .hbm, ⟨9, _⟩ => ⟨S24576x4096, .bf16⟩
  | .hbm, ⟨10, _⟩ => ⟨S24576x2048, .bf16⟩
  | .hbm, ⟨11, _⟩ => ⟨S2048x4096, .f32⟩
  | .hbm, ⟨12, _⟩ => ⟨S24576x2048, .fp8e4m3⟩
  | .hbm, ⟨13, _⟩ => ⟨S24576x4096, .fp8e5m2⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S3x16, .f32⟩
  | .local _ .vmem, ⟨0, _⟩ => ⟨S3x16, .f32⟩
  | .local _ .vmem, ⟨1, _⟩ => ⟨S1x1, .f32⟩
  | .local _ .vmem, ⟨2, _⟩ => ⟨S256x2048, .bf16⟩
  | .local _ .vmem, ⟨3, _⟩ => ⟨S256x2048, .bf16⟩
  | .local _ .vmem, ⟨4, _⟩ => ⟨S256x4096, .bf16⟩
  | .local _ .vmem, ⟨5, _⟩ => ⟨S256x4096, .bf16⟩
  | .local _ .vmem, ⟨6, _⟩ => ⟨S2048x4096, .fp8e4m3⟩
  | .local _ .vmem, ⟨7, _⟩ => ⟨S256x4096, .bf16⟩
  | .local _ .vmem, ⟨8, _⟩ => ⟨S256x4096, .bf16⟩
  | .local _ .vmem, ⟨9, _⟩ => ⟨S256x2048, .bf16⟩
  | .local _ .vmem, ⟨10, _⟩ => ⟨S256x2048, .bf16⟩
  | .local _ .vmem, ⟨11, _⟩ => ⟨S2048x4096, .f32⟩
  | .local _ .vmem, ⟨12, _⟩ => ⟨S256x2048, .fp8e4m3⟩
  | .local _ .vmem, ⟨13, _⟩ => ⟨S256x2048, .fp8e4m3⟩
  | .local _ .vmem, ⟨14, _⟩ => ⟨S256x4096, .fp8e5m2⟩
  | .local _ .vmem, ⟨15, _⟩ => ⟨S256x4096, .fp8e5m2⟩
  | .local _ .vmem, ⟨16, _⟩ => ⟨S1x1, .f32⟩
  | .local _ .vmem, ⟨17, _⟩ => ⟨S1x1, .f32⟩
  | .local _ .vmem, ⟨18, _⟩ => ⟨S1x1, .f32⟩
  | .local _ .vmem, ⟨19, _⟩ => ⟨S3x16, .f32⟩
  | .local _ .vmem, ⟨20, _⟩ => ⟨S16x2048, .bf16⟩
  | .local _ .vmem, ⟨21, _⟩ => ⟨S16x4096, .bf16⟩
  | .local _ .smem, ⟨0, _⟩ => ⟨S1, .i32⟩
  | _, _ => ⟨S6x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_v3_7 : Ref sig .tc := ⟨.hbm, 16, rfl⟩
abbrev main_v3_8 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c0_i32 : BitVec 32 := 0#32
  let v305 : BitVec 1 := Scalar.cmpi .eq arg0 c0_i32
  let v306 : BitVec 32 := Scalar.extui v305
  let c0_i32_118 : BitVec 32 := 0#32
  let v307 : BitVec 1 := Scalar.cmpi .ne v306 c0_i32_118
  v307

def k0_cond2 (i : grid0.Coords) : BitVec 1 :=
  let arg0 : BitVec 32 := BitVec.ofNat 32 (i 0).val
  let c95_i32 : BitVec 32 := 95#32
  let v452 : BitVec 1 := Scalar.cmpi .eq arg0 c95_i32
  let v453 : BitVec 32 := Scalar.extui v452
  let c0_i32_152 : BitVec 32 := 0#32
  let v454 : BitVec 1 := Scalar.cmpi .ne v453 c0_i32_152
  v454

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S6x4096x2048 : Shape := ⟨3, ![6, 4096, 2048]⟩
abbrev S6x4096x4096 : Shape := ⟨3, ![6, 4096, 4096]⟩
abbrev S2048x4096 : Shape := ⟨2, ![2048, 4096]⟩
abbrev S3x16 : Shape := ⟨2, ![3, 16]⟩
abbrev S1x1 : Shape := ⟨2, ![1, 1]⟩
abbrev S_ : Shape := ⟨0, ![]⟩
abbrev S24576x2048 : Shape := ⟨2, ![24576, 2048]⟩
abbrev S24576x4096 : Shape := ⟨2, ![24576, 4096]⟩
abbrev S1 : Shape := ⟨1, ![1]⟩
abbrev S1x16 : Shape := ⟨2, ![1, 16]⟩
abbrev S1x254 : Shape := ⟨2, ![1, 254]⟩
abbrev S1x24576x2048 : Shape := ⟨3, ![1, 24576, 2048]⟩
abbrev S1x1x1 : Shape := ⟨3, ![1, 1, 1]⟩
abbrev S1x24576x4096 : Shape := ⟨3, ![1, 24576, 4096]⟩

abbrev nBuf : Space → Nat
  | .hbm => 18
  | .vmem => 14
  | .smem => 1
  | _ => 0

abbrev bufTy : (tb : Table) → Fin (tcTables nBuf tb) → BufTy
  | .hbm, ⟨0, _⟩ => ⟨S6x4096x2048, .bf16⟩
  | .hbm, ⟨1, _⟩ => ⟨S6x4096x4096, .bf16⟩
  | .hbm, ⟨2, _⟩ => ⟨S2048x4096, .fp8e4m3⟩
  | .hbm, ⟨3, _⟩ => ⟨S3x16, .f32⟩
  | .hbm, ⟨4, _⟩ => ⟨S1x1, .f32⟩
  | .hbm, ⟨5, _⟩ => ⟨S_, .i32⟩
  | .hbm, ⟨6, _⟩ => ⟨S24576x2048, .bf16⟩
  | .hbm, ⟨7, _⟩ => ⟨S24576x4096, .bf16⟩
  | .hbm, ⟨8, _⟩ => ⟨S1, .i32⟩
  | .hbm, ⟨9, _⟩ => ⟨S24576x4096, .bf16⟩
  | .hbm, ⟨10, _⟩ => ⟨S24576x2048, .bf16⟩
  | .hbm, ⟨11, _⟩ => ⟨S2048x4096, .f32⟩
  | .hbm, ⟨12, _⟩ => ⟨S24576x2048, .fp8e4m3⟩
  | .hbm, ⟨13, _⟩ => ⟨S24576x4096, .fp8e5m2⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S3x16, .f32⟩
  | .local _ .vmem, ⟨0, _⟩ => ⟨S24576x2048, .bf16⟩
  | .local _ .vmem, ⟨1, _⟩ => ⟨S24576x4096, .bf16⟩
  | .local _ .vmem, ⟨2, _⟩ => ⟨S2048x4096, .fp8e4m3⟩
  | .local _ .vmem, ⟨3, _⟩ => ⟨S3x16, .f32⟩
  | .local _ .vmem, ⟨4, _⟩ => ⟨S1x1, .f32⟩
  | .local _ .vmem, ⟨5, _⟩ => ⟨S24576x4096, .bf16⟩
  | .local _ .vmem, ⟨6, _⟩ => ⟨S24576x2048, .bf16⟩
  | .local _ .vmem, ⟨7, _⟩ => ⟨S2048x4096, .f32⟩
  | .local _ .vmem, ⟨8, _⟩ => ⟨S24576x2048, .fp8e4m3⟩
  | .local _ .vmem, ⟨9, _⟩ => ⟨S24576x4096, .fp8e5m2⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S3x16, .f32⟩
  | .local _ .smem, ⟨0, _⟩ => ⟨S1, .i32⟩
  | _, _ => ⟨S6x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_v3_7 : Ref sig .tc := ⟨.hbm, 16, rfl⟩
abbrev main_v3_8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S24576x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24576x4096 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Whole.lean ====
/- Stores and loads of a whole buffer: what the buffer then holds, and what the load reads. -/
module

public import Idealize.ShloMosaic.Lib.Pipeline.FrameBody
public import Idealize.ShloMosaic.Lib.Pipeline.ValueKit
public import Idealize.ShloMosaic.Lib.Ring

@[expose] public section

noncomputable section

namespace Cert.Whole

open Idealize.ShloMosaic Idealize.ShloMosaic.TcCoe

/-- Two zero offsets are the zero offset. -/
theorem hz : (![0, 0] : Fin 2 → Nat) = fun _ => 0 := funext fun a => by fin_cases a <;> rfl

/-- A buffer whose last store covers it holds what that store wrote. -/
theorem left_whole {Val : EltTy → Type} [∀ e, Nonempty (Val e)] {S : Shape} {e : EltTy} {g : RefSig} {κ : Kind} {sp : Space}
    {off : Fin S.rank → Nat} (h : off = fun _ => 0) {inb : ∀ a, off a + S.size a ≤ S.size a}
    (v : View g κ sp S e) (f : v.ty.Contents Val) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

/-- A load of the whole buffer after such stores reads what the last one wrote. -/
theorem left_cov {Val : EltTy → Type} [∀ e, Nonempty (Val e)] {S : Shape} {e : EltTy} {g : RefSig} {κ : Kind} {sp : Space}
    (v : View g κ sp S e) (r : Rect S) (w : r.shape.Idx → Val e) (L : List (View.Piece Val S e)) :
    v.readCov (⟨r, w⟩ :: L) r.toLoadRect = w := View.readCov_cons_toLoadRect v r w L

/-- A load of the whole of a matrix reads the matrix. -/
theorem ld_all {Val : EltTy → Type} {e : EltTy} {n m : Nat} (v : (⟨2, ![n, m]⟩ : Shape).Idx → Val e)
    (inb : ∀ a, ![0, 0] a + (⟨2, ![n, m]⟩ : Shape).size a ≤ (⟨2, ![n, m]⟩ : Shape).size a) :
    View.ld v (Rect.unit (s := ⟨2, ![n, m]⟩) ![0, 0] ![n, m] inb) = v :=
  View.ld_unit_zero (S := ⟨2, ![n, m]⟩) hz inb v

/-- A load of the whole of a one-axis table reads the table. -/
theorem ld_all₁ {Val : EltTy → Type} {e : EltTy} {n : Nat} (v : (⟨1, ![n]⟩ : Shape).Idx → Val e)
    (inb : ∀ a, ![0] a + (⟨1, ![n]⟩ : Shape).size a ≤ (⟨1, ![n]⟩ : Shape).size a) :
    View.ld v (Rect.unit (s := ⟨1, ![n]⟩) ![0] ![n] inb) = v :=
  View.ld_unit_zero (S := ⟨1, ![n]⟩) (funext fun a => by fin_cases a; rfl) inb v

end Cert.Whole
-- ==== Proof.Weight.Points.lean ====
/- What one grid point of `weight_quant` leaves behind, as functions of the blocks it loads: the codes of its block of the
   weight, the running maximum of magnitudes, and at the last point the weight's absolute maximum. -/
module

public import proofs.«01_k».proof.Proof.Whole
public import proofs.«01_k».proof.Proof.Gen.WeightIdeal.Value

@[expose] public section

set_option maxRecDepth 16384

noncomputable section

namespace Cert.WeightIdeal.Points

open Cert.WeightIdeal Cert.WeightIdeal.Gen Cert.Whole Idealize.ShloMosaic Idealize.ShloMosaic.TcCoe

variable {F : FTy → Type} [FloatOps F]

/-- The history's row 1, as the kernel loads it. -/
def row (h : Vec F S3x16 .f32) : Vec F S1x16 .f32 :=
  View.ld (Val := Elt F) h (Rect.unit (s := S3x16) ![1, 0] S1x16.size inb_S3x16_S1x16_1_0)

/-- The inverse of the scale of a row. -/
def inv (r : Vec F S1x16 .f32) : FVec F S1x1 .f32 := k0_pay12 (k0_pay9 r) (k0_pay10 r) (k0_pay11 r) (Scalar.ofBits .f32 0x2F800000#32)

/-- The codes of a block of the weight. -/
def codes (h : Vec F S3x16 .f32) (w : Vec F S256x4096 .bf16) : FVec F S256x4096 .fp8e4m3 := k0_pay13 (inv (row h)) w

/-- The running maximum after a block. -/
def advance (w : Vec F S256x4096 .bf16) (before : Vec F S16x4096 .bf16) : FVec F S16x4096 .bf16 :=
  k0_pay1 w before (k0_pay15 w) (k0_pay16 w)

variable (c : Dev nD) (i : grid0.Coords)
  (arg1 : Memref sig .tc .vmem S3x16 .f32) (harg1 : arg1.IsWhole)
  (arg2 : Memref sig .tc .vmem S256x4096 .bf16) (harg2 : arg2.IsWhole)
  (arg3 : Memref sig .tc .vmem S256x4096 .fp8e4m3) (harg3 : arg3.IsWhole)
  (arg4 : Memref sig .tc .vmem S1x1 .f32) (harg4 : arg4.IsWhole)
  (arg5 : Memref sig .tc .vmem S16x4096 .bf16) (harg5 : arg5.IsWhole)
  (h : Vec F S3x16 .f32) (w : Vec F S256x4096 .bf16) (before : Vec F S16x4096 .bf16)

/-- The first point's codes. -/
theorem codes_A (hc0 : cond0_0 i) (hc1 : ¬cond0_1 i) :
    out0_A_2 c i arg1 harg1 arg2 harg2 arg3 harg3 arg4 harg4 arg5 harg5 hc0 hc1 h w = codes h w := by
  unfold out0_A_2
  unfold kernelRun0_A
  dsimp only
  refine (left_whole hz _ _ _ _).trans ?_
  sl_unfold_words
  simp only [View.readAt_eq_ld, harg1.read_unread, harg2.read_unread, ld_all]
  rfl

/-- A middle point's codes. -/
theorem codes_B (hc0 : ¬cond0_0 i) (hc1 : ¬cond0_1 i) :
    out0_B_2 c i arg1 harg1 arg2 harg2 arg3 harg3 arg4 harg4 arg5 harg5 hc0 hc1 h w before = codes h w := by
  unfold out0_B_2
  unfold kernelRun0_B
  dsimp only
  refine (left_whole hz _ _ _ _).trans ?_
  sl_unfold_words
  simp only [View.readAt_eq_ld, harg1.read_unread, harg2.read_unread, ld_all]
  rfl

/-- The last point's codes. -/
theorem codes_C (hc0 : ¬cond0_0 i) (hc1 : cond0_1 i) :
    out0_C_2 c i arg1 harg1 arg2 harg2 arg3 harg3 arg4 harg4 arg5 harg5 hc0 hc1 h w before = codes h w := by
  unfold out0_C_2
  unfold kernelRun0_C
  dsimp only
  refine (left_whole hz _ _ _ _).trans ?_
  sl_unfold_words
  simp only [View.readAt_eq_ld, harg1.read_unread, harg2.read_unread, ld_all]
  rfl

/-- The running maximum after the first point: it starts from zero. -/
theorem max_A (hc0 : cond0_0 i) (hc1 : ¬cond0_1 i) :
    sout0_A_0 c i arg1 harg1 arg2 harg2 arg3 harg3 arg4 harg4 arg5 harg5 hc0 hc1 h w = advance w k0_pay14 := by
  unfold sout0_A_0
  unfold kernelRun0_A
  dsimp only
  refine (left_whole hz _ _ _ _).trans ?_
  sl_unfold_words
  simp only [left_cov, View.readAt_eq_ld, harg1.read_unread, harg2.read_unread, ld_all]
  rfl

/-- The running maximum after a middle point. -/
theorem max_B (hc0 : ¬cond0_0 i) (hc1 : ¬cond0_1 i) :
    sout0_B_0 c i arg1 harg1 arg2 harg2 arg3 harg3 arg4 harg4 arg5 harg5 hc0 hc1 h w before = advance w before := by
  unfold sout0_B_0
  unfold kernelRun0_B
  dsimp only
  refine (left_whole hz _ _ _ _).trans ?_
  sl_unfold_words
  simp only [left_cov, View.readAt_eq_ld, harg1.read_unread, harg2.read_unread, harg5.read_unread, ld_all]
  rfl

/-- The weight's absolute maximum, written by the last point. -/
theorem amax_C (hc0 : ¬cond0_0 i) (hc1 : cond0_1 i) :
    out0_C_3 c i arg1 harg1 arg2 harg2 arg3 harg3 arg4 harg4 arg5 harg5 hc0 hc1 h w before = k0_pay2 (advance w before) := by
  unfold out0_C_3
  unfold kernelRun0_C
  dsimp only
  refine (left_whole hz _ _ _ _).trans ?_
  sl_unfold_words
  simp only [left_cov, View.readAt_eq_ld, harg1.read_unread, harg2.read_unread, harg5.read_unread, ld_all]
  rfl

end Cert.WeightIdeal.Points
-- ==== Proof.Scale.lean ====
/-
  THE SCALE OF A HISTORY ROW. A row of past absolute maxima is turned into a power of two: with `r` the row's largest
  entry over the format's largest finite value, the scale is `2 ^ e` for the exponent `e` with `2 ^ (e - 1) ≤ r < 2 ^ e`
  when `r` is a normal number below `2 ^ 127`, and `1` otherwise.

  The kernel finds the power by CLIMBING: nine times it asks whether the number is still at least a threshold, and if so
  divides it by a power of two and multiplies the answer by the same power. The reference COUNTS: `e` is the number of
  powers `2 ^ (f - 126)`, `f < 254`, that are at most `r`, less 126. This module states both on one number and proves them
  equal over the extended reals.
-/
module

public import Idealize.ShloMosaic.Lib.ValueIdx
public import Idealize.ShloMosaic.Lib.IdealHost
public import Idealize.ShloMosaic.PureOps.Ideal.Laws

@[expose] public section

namespace Cert.Scale

open Idealize.ShloMosaic

/-- The shape of one number held as a 1×1 array. -/
abbrev One : Shape := ⟨2, ![1, 1]⟩

section Generic
variable {F : FTy → Type} [FloatOps F]

/-- A constant as a 1×1 array. -/
noncomputable def const (b : BitVec 32) : FVec F One .f32 := broadcast One (Scalar.ofBits .f32 b)

/-- A history row's largest entry times the constant `b` (the format's largest finite value inverted), its sign dropped. -/
noncomputable def magnitude (b : BitVec 32) (row : Vec F ⟨2, ![1, 16]⟩ .f32) : FVec F One .f32 :=
  absf (mulf (shapeCast One (multiReduction .maximumf [1] ⟨1, ![1]⟩ row 0xFF800000#32)) (const b))

/-- Is the number normal and below `2 ^ 127`? -/
noncomputable def inRange (a : FVec F One .f32) : IVec One 1 :=
  andi (cmpf .oge a (const 0x00800000#32)) (cmpf .olt a (const 0x7F000000#32))

/-- The number the climb starts from: `a` itself in range, one half (whose scale is `1`) out of range. -/
noncomputable def start (a : FVec F One .f32) : FVec F One .f32 := select (inRange a) a (const 0x3F000000#32)

/-- One step of the climb: `v` times the constant `g` where `m` is at least the threshold `t`, else `v`. -/
noncomputable def rung (t g : BitVec 32) (m v : FVec F One .f32) : FVec F One .f32 :=
  select (cmpf .oge m (const t)) (mulf v (const g)) v

/-- The climb from `m` carrying `v`: each step `(t, s, g)` shrinks `m` by `s` and grows `v` by `g` together. -/
noncomputable def climb : List (BitVec 32 × BitVec 32 × BitVec 32) → FVec F One .f32 → FVec F One .f32 → FVec F One .f32
  | [], _, v => v
  | (t, s, g) :: l, m, v => climb l (rung t s m m) (rung t g m v)

/-- The kernel's nine steps, the answer doubled as the number is halved: shrink by `2 ^ k` above `2 ^ (k - 127)` for
    `k = 64, 64, 64, 32, 16, 8, 4, 2, 1`. -/
def ups : List (BitVec 32 × BitVec 32 × BitVec 32) :=
  [(0x20000000#32, 0x1F800000#32, 0x5F800000#32), (0x20000000#32, 0x1F800000#32, 0x5F800000#32),
   (0x20000000#32, 0x1F800000#32, 0x5F800000#32), (0x10000000#32, 0x2F800000#32, 0x4F800000#32),
   (0x08000000#32, 0x37800000#32, 0x47800000#32), (0x04000000#32, 0x3B800000#32, 0x43800000#32),
   (0x02000000#32, 0x3D800000#32, 0x41800000#32), (0x01000000#32, 0x3E800000#32, 0x40800000#32),
   (0x00800000#32, 0x3F000000#32, 0x40000000#32)]

/-- The same steps for the inverse, which shrinks with the number. -/
def downs : List (BitVec 32 × BitVec 32 × BitVec 32) := ups.map fun p => (p.1, p.2.1, p.2.1)

/-- The scale of a number, by the climb. -/
noncomputable def scaleOf (a : FVec F One .f32) : FVec F One .f32 := climb ups (start a) (const 0x00800000#32)

/-- Its inverse, by the climb. -/
noncomputable def inverseOf (a : FVec F One .f32) : FVec F One .f32 := climb downs (start a) (const 0x7E800000#32)

/-- The number of powers `2 ^ (f - 126)`, `f < 254`, at most `a`, less 126; `0` out of range. -/
noncomputable def exponent (a : FVec F One .f32) : FVec F One .f32 :=
  select (inRange a)
    (subf (shapeCast One (multiReduction .add [1] ⟨1, ![1]⟩
      (select (cmpf .ole (exp2 (subf (sitofp .f32 (iota .tc ⟨2, ![1, 254]⟩ 32 [1]))
          (broadcast ⟨2, ![1, 254]⟩ (Scalar.ofBits .f32 0x42FC0000#32)))) (broadcastTo ⟨2, ![1, 254]⟩ a))
        (broadcast ⟨2, ![1, 254]⟩ (Scalar.ofBits .f32 0x3F800000#32))
        (broadcast ⟨2, ![1, 254]⟩ (Scalar.ofBits .f32 0x00000000#32))) 0x00000000#32)) (const 0x42FC0000#32))
    (const 0x00000000#32)

end Generic

/-! ### Powers of two as bit patterns -/

/-- A 32-bit pattern with a clear sign and significand and exponent field `n` is `2 ^ (n - 127)`. -/
theorem power (b : BitVec 32) (n : ℕ) (hx : (b.extractLsb' 23 8).toNat = n) (hf : (b.extractLsb' 0 23).toNat = 0)
    (hs : (b.extractLsb' 31 1 == 1#1) = false) (h0 : n ≠ 0) (h1 : n ≠ 255) :
    Ideal.ofBits .f32 b = (((2 : ℝ) ^ ((n : ℤ) - 127) : ℝ) : EReal) := by
  show Ideal.ieee 8 23 b = _
  unfold Ideal.ieee
  simp only [hx, hf]
  rw [if_neg (show ¬ n = 2 ^ 8 - 1 from h1), if_neg h0]
  congr 1
  have : (b.extractLsb' (8 + 23) 1 == 1#1) = false := hs
  rw [this]
  have e : ((n : ℤ) - 127) = 23 + ((n : ℤ) - (2 ^ (8 - 1) - 1) - (23 : ℕ)) := by norm_num
  rw [e, zpow_add₀ (by norm_num)]
  norm_num

/-! ### The climb on one number -/

/-- Where the climb stands: `d` doublings done, steps of total size `K` to go. The number is `s / 2 ^ d`, the answer
    `2 ^ (d - 126)`, its inverse `2 ^ (126 - d)`, and the number lies between `2 ^ -127` and `2 ^ (K - 126)`. -/
structure Stands (s : ℝ) (K d : ℕ) (m u v : EReal) : Prop where
  number : m = ((s * (2 : ℝ) ^ (-(d : ℤ)) : ℝ) : EReal)
  up : u = (((2 : ℝ) ^ ((d : ℤ) - 126) : ℝ) : EReal)
  down : v = (((2 : ℝ) ^ (126 - (d : ℤ)) : ℝ) : EReal)
  least : (2 : ℝ) ^ (-127 : ℤ) ≤ s * (2 : ℝ) ^ (-(d : ℤ))
  most : s * (2 : ℝ) ^ (-(d : ℤ)) < (2 : ℝ) ^ ((K : ℤ) - 126)

/-- One step on one number. -/
noncomputable def step (T G m v : EReal) : EReal := if T ≤ m then v * G else v

/-- A step of size `k` keeps the standing and leaves `K - k`. -/
theorem Stands.step {s : ℝ} {K d : ℕ} {m u v T S U : EReal} (k : ℕ) (h : Stands s K d m u v) (hK : 2 * k ≤ K + 1)
    (hk : k ≤ K) (hT : T = (((2 : ℝ) ^ ((k : ℤ) - 127) : ℝ) : EReal)) (hS : S = (((2 : ℝ) ^ (-(k : ℤ)) : ℝ) : EReal))
    (hU : U = (((2 : ℝ) ^ (k : ℤ) : ℝ) : EReal)) :
    ∃ d', Stands s (K - k) d' (Scale.step T S m m) (Scale.step T U m u) (Scale.step T S m v) := by
  obtain ⟨hm, hu, hv, hl, hr⟩ := h
  have two : (2 : ℝ) ≠ 0 := by norm_num
  have one : (1 : ℝ) < 2 := by norm_num
  by_cases c : T ≤ m
  · refine ⟨d + k, ?_, ?_, ?_, ?_, ?_⟩
    · rw [Scale.step, if_pos c, hm, hS, ← EReal.coe_mul, mul_assoc, ← zpow_add₀ two]
      congr 3
      congr 1
      push_cast; ring
    · rw [Scale.step, if_pos c, hu, hU, ← EReal.coe_mul, ← zpow_add₀ two]
      congr 2; push_cast; ring
    · rw [Scale.step, if_pos c, hv, hS, ← EReal.coe_mul, ← zpow_add₀ two]
      congr 2; push_cast; ring
    · rw [hT, hm, EReal.coe_le_coe_iff] at c
      have := mul_le_mul_of_nonneg_right c (zpow_pos (by norm_num : (0 : ℝ) < 2) (-(k : ℤ))).le
      rw [← zpow_add₀ two, mul_assoc, ← zpow_add₀ two] at this
      rw [show (-127 : ℤ) = (k : ℤ) - 127 + -(k : ℤ) by ring,
        show -((d + k : ℕ) : ℤ) = -(d : ℤ) + -(k : ℤ) by push_cast; ring]
      exact this
    · have := mul_lt_mul_of_pos_right hr (zpow_pos (by norm_num : (0 : ℝ) < 2) (-(k : ℤ)))
      rw [← zpow_add₀ two, mul_assoc, ← zpow_add₀ two] at this
      rw [show -((d + k : ℕ) : ℤ) = -(d : ℤ) + -(k : ℤ) by push_cast; ring,
        show ((K - k : ℕ) : ℤ) - 126 = (K : ℤ) - 126 + -(k : ℤ) by push_cast [Nat.cast_sub hk]; ring]
      exact this
  · refine ⟨d, ?_, ?_, ?_, hl, ?_⟩
    · rw [Scale.step, if_neg c, hm]
    · rw [Scale.step, if_neg c, hu]
    · rw [Scale.step, if_neg c, hv]
    · rw [hT, hm, EReal.coe_le_coe_iff, not_le] at c
      refine c.trans_le (zpow_le_zpow_right₀ one.le ?_)
      push_cast [Nat.cast_sub hk]
      omega

/-- A list of steps fits a total size `K`: each is a step of some size `k` that `Stands.step` allows, and they use up `K`. -/
def Fits : List (BitVec 32 × BitVec 32 × BitVec 32) → ℕ → Prop
  | [], K => K = 0
  | (t, s, g) :: l, K => ∃ k : ℕ, 2 * k ≤ K + 1 ∧ k ≤ K ∧
      Ideal.ofBits .f32 t = (((2 : ℝ) ^ ((k : ℤ) - 127) : ℝ) : EReal) ∧
      Ideal.ofBits .f32 s = (((2 : ℝ) ^ (-(k : ℤ)) : ℝ) : EReal) ∧
      Ideal.ofBits .f32 g = (((2 : ℝ) ^ (k : ℤ) : ℝ) : EReal) ∧ Fits l (K - k)

/-- One step's constants from their exponent fields. -/
theorem fits_cons (t s g : BitVec 32) (l : List (BitVec 32 × BitVec 32 × BitVec 32)) (K k : ℕ) (hK : 2 * k ≤ K + 1) (hk : k ≤ K)
    (h0 : 0 < k) (h1 : k < 127)
    (ht : (t.extractLsb' 23 8).toNat = k ∧ (t.extractLsb' 0 23).toNat = 0 ∧ (t.extractLsb' 31 1 == 1#1) = false)
    (hs : (s.extractLsb' 23 8).toNat = 127 - k ∧ (s.extractLsb' 0 23).toNat = 0 ∧ (s.extractLsb' 31 1 == 1#1) = false)
    (hg : (g.extractLsb' 23 8).toNat = 127 + k ∧ (g.extractLsb' 0 23).toNat = 0 ∧ (g.extractLsb' 31 1 == 1#1) = false)
    (h : Fits l (K - k)) : Fits ((t, s, g) :: l) K := by
  refine ⟨k, hK, hk, power t k ht.1 ht.2.1 ht.2.2 (by omega) (by omega), ?_, ?_, h⟩
  · rw [power s _ hs.1 hs.2.1 hs.2.2 (by omega) (by omega)]
    congr 2
    omega
  · rw [power g _ hg.1 hg.2.1 hg.2.2 (by omega) (by omega)]
    congr 2
    omega

/-- The kernel's nine steps use up 255. -/
theorem ups_fit : Fits ups 255 :=
  fits_cons _ _ _ _ _ 64 (by decide) (by decide) (by decide) (by decide) (by decide) (by decide) (by decide) <|
  fits_cons _ _ _ _ _ 64 (by decide) (by decide) (by decide) (by decide) (by decide) (by decide) (by decide) <|
  fits_cons _ _ _ _ _ 64 (by decide) (by decide) (by decide) (by decide) (by decide) (by decide) (by decide) <|
  fits_cons _ _ _ _ _ 32 (by decide) (by decide) (by decide) (by decide) (by decide) (by decide) (by decide) <|
  fits_cons _ _ _ _ _ 16 (by decide) (by decide) (by decide) (by decide) (by decide) (by decide) (by decide) <|
  fits_cons _ _ _ _ _ 8 (by decide) (by decide) (by decide) (by decide) (by decide) (by decide) (by decide) <|
  fits_cons _ _ _ _ _ 4 (by decide) (by decide) (by decide) (by decide) (by decide) (by decide) (by decide) <|
  fits_cons _ _ _ _ _ 2 (by decide) (by decide) (by decide) (by decide) (by decide) (by decide) (by decide) <|
  fits_cons _ _ _ _ _ 1 (by decide) (by decide) (by decide) (by decide) (by decide) (by decide) (by decide) rfl

/-- A rung at an index is a step on that index's numbers. -/
theorem rung_apply (t g : BitVec 32) (m v : FVec Ideal One .f32) (j : One.Idx) :
    rung t g m v j = step (Ideal.ofBits .f32 t) (Ideal.ofBits .f32 g) (m j) (v j) := by
  show (if BitVec.ofBool (decide (Ideal.ofBits .f32 t ≤ m j)) = 1 then v j * Ideal.ofBits .f32 g else v j) = _
  unfold step
  by_cases c : Ideal.ofBits .f32 t ≤ m j <;> simp [c]

/-- The climb carries a standing at `K` to one at `0`. -/
theorem climb_stands {s : ℝ} (l : List (BitVec 32 × BitVec 32 × BitVec 32)) (K d : ℕ) (m u v : FVec Ideal One .f32) (j : One.Idx)
    (hl : Fits l K) (h : Stands s K d (m j) (u j) (v j)) :
    ∃ d' x, Stands s 0 d' x (climb l m u j) (climb (l.map fun p => (p.1, p.2.1, p.2.1)) m v j) := by
  induction l generalizing K d m u v with
  | nil => obtain rfl : K = 0 := hl; exact ⟨d, m j, h⟩
  | cons p l ih =>
    obtain ⟨t, a, g⟩ := p
    obtain ⟨k, hK, hk, ht, ha, hg, hl⟩ := hl
    obtain ⟨d', h'⟩ := h.step k hK hk ht ha hg
    refine ih (K - k) d' (rung t a m m) (rung t g m u) (rung t a m v) hl ?_
    rw [rung_apply, rung_apply, rung_apply]
    exact h'

/-- The climb from a number `s` between `2 ^ -127` and `2 ^ 129`: it finds the `d` with `2 ^ (d - 127) ≤ s < 2 ^ (d - 126)`. -/
theorem climbs {s : ℝ} (m : FVec Ideal One .f32) (j : One.Idx) (hm : m j = (s : EReal)) (hl : (2 : ℝ) ^ (-127 : ℤ) ≤ s)
    (hr : s < (2 : ℝ) ^ (129 : ℤ)) :
    ∃ d : ℕ, (2 : ℝ) ^ ((d : ℤ) - 127) ≤ s ∧ s < (2 : ℝ) ^ ((d : ℤ) - 126) ∧
      climb ups m (const 0x00800000#32) j = (((2 : ℝ) ^ ((d : ℤ) - 126) : ℝ) : EReal) ∧
      climb downs m (const 0x7E800000#32) j = (((2 : ℝ) ^ (126 - (d : ℤ)) : ℝ) : EReal) := by
  have two : (2 : ℝ) ≠ 0 := by norm_num
  obtain ⟨d, x, h⟩ := climb_stands (s := s) ups 255 0 m (const 0x00800000#32) (const 0x7E800000#32) j ups_fit
    ⟨by rw [hm]; simp,
     (power 0x00800000#32 1 (by decide) (by decide) (by decide) (by decide) (by decide)).trans (by norm_num),
     (power 0x7E800000#32 253 (by decide) (by decide) (by decide) (by decide) (by decide)).trans (by norm_num), by simpa using hl, by simpa using hr⟩
  have pos : (0 : ℝ) < (2 : ℝ) ^ (d : ℤ) := zpow_pos (by norm_num) _
  have cancel : s * (2 : ℝ) ^ (-(d : ℤ)) * (2 : ℝ) ^ (d : ℤ) = s := by
    rw [mul_assoc, ← zpow_add₀ two]; simp
  refine ⟨d, ?_, ?_, h.up, h.down⟩
  · have := mul_le_mul_of_nonneg_right h.least pos.le
    rw [cancel, ← zpow_add₀ two] at this
    rwa [show (d : ℤ) - 127 = -127 + d by ring]
  · have := mul_lt_mul_of_pos_right h.most pos
    rw [cancel, ← zpow_add₀ two] at this
    rw [show (d : ℤ) - 126 = ((0 : ℕ) : ℤ) - 126 + d by push_cast; ring]
    exact this

/-! ### The count -/

/-- The range test at an index. -/
theorem inRange_apply (a : FVec Ideal One .f32) (j : One.Idx) :
    inRange a j = BitVec.ofBool (decide ((((2 : ℝ) ^ (-126 : ℤ) : ℝ) : EReal) ≤ a j ∧ a j < (((2 : ℝ) ^ (127 : ℤ) : ℝ) : EReal))) := by
  show BitVec.ofBool (decide (Ideal.ofBits .f32 0x00800000#32 ≤ a j)) &&& BitVec.ofBool (decide (a j < Ideal.ofBits .f32 0x7F000000#32)) = _
  rw [power 0x00800000#32 1 (by decide) (by decide) (by decide) (by decide) (by decide),
    power 0x7F000000#32 254 (by decide) (by decide) (by decide) (by decide) (by decide)]
  rw [show (((1 : ℕ) : ℤ) - 127) = -126 by norm_num, show (((254 : ℕ) : ℤ) - 127) = 127 by norm_num]
  by_cases c : (((2 : ℝ) ^ (-126 : ℤ) : ℝ) : EReal) ≤ a j <;> by_cases c' : a j < (((2 : ℝ) ^ (127 : ℤ) : ℝ) : EReal) <;>
    simp only [c, c', decide_true, decide_false, and_true, and_false, true_and, false_and] <;> decide

/-- 126 as a pattern. -/
theorem bits_126 : Ideal.ofBits .f32 0x42FC0000#32 = ((126 : ℝ) : EReal) := by
  simp [Ideal.ofBits, Ideal.ieee, -EReal.coe_mul]; norm_num

/-- The powers of two counted below a number between `2 ^ (d - 127)` and `2 ^ (d - 126)`. -/
theorem count {s : ℝ} (d : ℕ) (hd : d ≤ 254) (hl : (2 : ℝ) ^ ((d : ℤ) - 127) ≤ s) (hr : s < (2 : ℝ) ^ ((d : ℤ) - 126)) :
    (∑ k : Fin 254, if (2 : ℝ) ^ ((k : ℤ) - 126) ≤ s then (1 : EReal) else 0) = ((d : ℝ) : EReal) := by
  have e : ∀ k : Fin 254, ((2 : ℝ) ^ ((k : ℤ) - 126) ≤ s) = ((k : ℕ) < d) := fun k => propext
    ⟨fun h => by
      have := (zpow_lt_zpow_iff_right₀ (by norm_num : (1 : ℝ) < 2)).1 (h.trans_lt hr)
      omega,
     fun h => (zpow_le_zpow_right₀ (by norm_num) (by omega)).trans hl⟩
  simp only [e]
  rw [Finset.sum_boole]
  have : (Finset.univ.filter fun k : Fin 254 => (k : ℕ) < d).card = d := by
    rw [Fin.card_filter_val_lt]; omega
  rw [this]
  simp

/-- The exponent of a number in range. -/
theorem exponent_apply (a : FVec Ideal One .f32) (j : One.Idx) {s : ℝ} (d : ℕ) (ha : ∀ i, a i = (s : EReal))
    (hin : inRange a j = 1#1) (hd : d ≤ 254) (hl : (2 : ℝ) ^ ((d : ℤ) - 127) ≤ s) (hr : s < (2 : ℝ) ^ ((d : ℤ) - 126)) :
    exponent a j = (((d : ℝ) - 126 : ℝ) : EReal) := by
  unfold exponent
  show (if inRange a j = 1 then _ else _) = _
  rw [if_pos (show inRange a j = 1 from hin)]
  show (multiReduction (F := Ideal) .add [1] ⟨1, ![1]⟩ _ 0x00000000#32 _ _ _ _ : EReal) - Ideal.ofBits .f32 0x42FC0000#32 = _
  rw [bits_126, Ideal.multiReduction_add_single]
  rw [show ∀ x y : EReal, x - y = x + -y from fun _ _ => rfl]
  rw [← EReal.coe_neg, show ((d : ℝ) - 126 : ℝ) = d + -126 by ring, EReal.coe_add, ← count d hd hl hr]
  congr 1
  refine Finset.sum_congr rfl fun k _ => ?_
  show (if BitVec.ofBool (decide (Ideal.exp2 (((BitVec.ofNat 32 (0 * 254 + k.val)).toInt : ℝ) - Ideal.ofBits .f32 0x42FC0000#32 : EReal) ≤ a _)) = 1 then
    Ideal.ofBits .f32 0x3F800000#32 else Ideal.ofBits .f32 0x00000000#32) = _
  have hk : ((BitVec.ofNat 32 (0 * 254 + k.val)).toInt : ℝ) = (k.val : ℝ) := by
    have := k.isLt
    rw [BitVec.toInt_ofNat', Nat.zero_mul, Nat.zero_add]
    have : ((k.val : ℤ)).bmod (2 ^ 32) = k.val := by
      rw [Int.bmod_def]; change k.val < 254 at this; split <;> omega
    rw [this]; push_cast; rfl
  rw [hk, bits_126, ha, ← EReal.coe_sub, Ideal.exp2_coe, Ideal.ofBits_one_f32, Ideal.ofBits_zero_f32]
  have hp : Real.rpow 2 ((k.val : ℝ) - 126) = (2 : ℝ) ^ ((k : ℤ) - 126) := by
    rw [← Real.rpow_intCast]; push_cast; rfl
  rw [hp]
  by_cases c : (2 : ℝ) ^ ((k : ℤ) - 126) ≤ s <;> simp [c]

/-! ### The climb finds the counted exponent -/

/-- The one index of a 1×1 array. -/
theorem index_eq (i j : One.Idx) : i = j := by
  funext a
  apply Fin.ext
  match a with
  | ⟨0, _⟩ => have h1 : (i 0).val < 1 := (i 0).isLt; have h2 : (j 0).val < 1 := (j 0).isLt; show (i 0).val = (j 0).val; omega
  | ⟨1, _⟩ => have h1 : (i 1).val < 1 := (i 1).isLt; have h2 : (j 1).val < 1 := (j 1).isLt; show (i 1).val = (j 1).val; omega

/-- Both answers of the climb from the exponent the reference counts. -/
theorem both (a : FVec Ideal One .f32) (j : One.Idx) :
    ∃ e : ℤ, exponent a j = ((e : ℝ) : EReal) ∧ scaleOf a j = (((2 : ℝ) ^ e : ℝ) : EReal) ∧
      inverseOf a j = (((2 : ℝ) ^ (-e) : ℝ) : EReal) := by
  have one : (1 : ℝ) < 2 := by norm_num
  by_cases c : (((2 : ℝ) ^ (-126 : ℤ) : ℝ) : EReal) ≤ a j ∧ a j < (((2 : ℝ) ^ (127 : ℤ) : ℝ) : EReal)
  · have hin : inRange a j = 1#1 := by rw [inRange_apply]; simp only [c]; rfl
    have hs : a j = (((a j).toReal : ℝ) : EReal) :=
      (EReal.coe_toReal (c.2.trans (EReal.coe_lt_top _)).ne ((EReal.bot_lt_coe _).trans_le c.1).ne').symm
    have hm : start a j = (((a j).toReal : ℝ) : EReal) := by
      show (if inRange a j = 1 then a j else _) = _
      rw [if_pos (show inRange a j = 1 from hin)]; exact hs
    rw [hs, EReal.coe_le_coe_iff, EReal.coe_lt_coe_iff] at c
    obtain ⟨d, hl, hr, hu, hv⟩ := climbs (start a) j hm
      ((zpow_le_zpow_right₀ one.le (by norm_num)).trans c.1) (c.2.trans_le (zpow_le_zpow_right₀ one.le (by norm_num)))
    have hd : d ≤ 254 := by
      have := (zpow_lt_zpow_iff_right₀ one).1 (hl.trans_lt c.2)
      omega
    refine ⟨(d : ℤ) - 126, ?_, hu, ?_⟩
    · rw [exponent_apply a j d (fun i => by rw [index_eq i j]; exact hs) hin hd hl hr]; push_cast; rfl
    · refine hv.trans ?_
      rw [neg_sub]
  · have hin : ¬ inRange a j = 1 := by rw [inRange_apply]; simp only [c]; decide
    have hm : start a j = (((2 : ℝ) ^ (-1 : ℤ) : ℝ) : EReal) := by
      show (if inRange a j = 1 then a j else _) = _
      rw [if_neg hin]
      exact (power 0x3F000000#32 126 (by decide) (by decide) (by decide) (by decide) (by decide)).trans (by norm_num)
    obtain ⟨d, hl, hr, hu, hv⟩ := climbs (start a) j hm
      (zpow_le_zpow_right₀ one.le (by norm_num)) (zpow_lt_zpow_right₀ one (by norm_num))
    have hd : d = 126 := by
      have h1 := (zpow_le_zpow_iff_right₀ one).1 hl
      have h2 := (zpow_lt_zpow_iff_right₀ one).1 hr
      omega
    subst hd
    refine ⟨0, ?_, hu.trans (by norm_num), hv.trans (by norm_num)⟩
    show (if inRange a j = 1 then _ else _) = _
    rw [if_neg hin]
    refine Ideal.ofBits_zero_f32.trans ?_
    simp

/-- The kernel's scale is two to the reference's exponent. -/
theorem scaleOf_eq (a : FVec Ideal One .f32) : scaleOf a = exp2 (exponent a) := by
  funext j
  obtain ⟨e, he, hu, _⟩ := both a j
  show _ = Ideal.exp2 (exponent a j)
  rw [he, hu, Ideal.exp2_coe, ← Real.rpow_intCast]
  rfl

/-- The kernel's inverse is two to minus the reference's exponent. -/
theorem inverseOf_eq (a : FVec Ideal One .f32) : inverseOf a = exp2 (subf (const 0x00000000#32) (exponent a)) := by
  funext j
  obtain ⟨e, he, _, hv⟩ := both a j
  have hp : Real.rpow 2 (0 - (e : ℝ)) = (2 : ℝ) ^ (-e) := by
    rw [zero_sub, ← Int.cast_neg]
    exact Real.rpow_intCast 2 (-e)
  have hs : Ideal.exp2 (0 - ((e : ℝ) : EReal)) = (((2 : ℝ) ^ (-e) : ℝ) : EReal) := by
    rw [← EReal.coe_zero, ← EReal.coe_sub, Ideal.exp2_coe, hp]
  have hd : exp2 (subf (const 0x00000000#32) (exponent a)) j = Ideal.exp2 (Ideal.ofBits .f32 0x00000000#32 - exponent a j) := rfl
  rw [hd, he, hv, Ideal.ofBits_zero_f32, hs]

end Cert.Scale
-- ==== Proof.Absmax.lean ====
/-
  ABSOLUTE MAXIMA. The kernel keeps a running maximum of magnitudes in 16 rows: each block of 256 rows is cut into sixteen
  slabs of 16 rows, and the running maximum becomes its maximum with the magnitudes of all sixteen. At the end the 16 rows
  are reduced to one number. A maximum is determined by the numbers that bound it, so every step is read here as the answer
  to one question: when is the result at most `u`?
-/
module

public import Idealize.ShloMosaic.Lib.ValueIdx
public import Idealize.ShloMosaic.Lib.IdealHost
public import Idealize.ShloMosaic.PureOps.Ideal.Laws

@[expose] public section

namespace Cert.Absmax

open Idealize.ShloMosaic

section Generic
variable {F : FTy → Type} [FloatOps F] {n : ℕ}

/-- Sixteen rows of a block of 256 fit from row `16 k` on. -/
theorem fits (n : ℕ) (k : Fin 16) : Shape.Slices (⟨2, ![256, n]⟩ : Shape) ![16 * k.val, 0] ⟨2, ![16, n]⟩ :=
  ⟨rfl, fun a => match a with
    | ⟨0, _⟩ => by show 16 * k.val + 16 ≤ 256; have := k.isLt; omega
    | ⟨1, _⟩ => by show 0 + n ≤ n; omega⟩

/-- Rows `16 k` to `16 k + 15` of a block. -/
noncomputable def slab (w : Vec F ⟨2, ![256, n]⟩ .bf16) (k : Fin 16) : FVec F ⟨2, ![16, n]⟩ .bf16 :=
  extractStridedSlice ⟨2, ![16, n]⟩ ![16 * k.val, 0] w (fits n k)

/-- The maximum of the magnitudes of the first `k + 1` slabs. -/
noncomputable def peak (w : Vec F ⟨2, ![256, n]⟩ .bf16) : (k : ℕ) → k < 16 → FVec F ⟨2, ![16, n]⟩ .bf16
  | 0, h => absf (slab w ⟨0, h⟩)
  | k + 1, h => maximumf (peak w k (Nat.lt_of_succ_lt h)) (absf (slab w ⟨k + 1, h⟩))

/-- The running maximum after a block. -/
noncomputable def advance (w : Vec F ⟨2, ![256, n]⟩ .bf16) (before : Vec F ⟨2, ![16, n]⟩ .bf16) : FVec F ⟨2, ![16, n]⟩ .bf16 :=
  maximumf before (peak w 15 (by decide))

/-- The largest entry of a matrix, as a 1×1 array. -/
noncomputable def total {a b : ℕ} (v : FVec F ⟨2, ![a, b]⟩ .f32) (h : Shape.ShapeCasts (⟨2, ![a, b]⟩ : Shape) ⟨3, ![1, a, b]⟩)
    (h' : Shape.Reduces (⟨3, ![1, a, b]⟩ : Shape) [1, 2] ⟨1, ![1]⟩) : FVec F ⟨2, ![1, 1]⟩ .f32 :=
  broadcast ⟨2, ![1, 1]⟩ (extractAt ![0, 0, 0] (shapeCast ⟨3, ![1, 1, 1]⟩
    (multiReduction .maximumf [1, 2] ⟨1, ![1]⟩ (shapeCast ⟨3, ![1, a, b]⟩ v h) 0xFF800000#32 h' (.inl rfl) rfl)))

end Generic

/-- Row `16 k + r`, column `j` of a block. -/
def at16 {n : ℕ} (k : Fin 16) (i : (⟨2, ![16, n]⟩ : Shape).Idx) : (⟨2, ![256, n]⟩ : Shape).Idx := fun a => match a with
  | ⟨0, _⟩ => ⟨16 * k.val + (i 0).val, by have h : (i 0).val < 16 := (i 0).isLt; have := k.isLt; show _ < 256; omega⟩
  | ⟨1, _⟩ => ⟨(i 1).val, (i 1).isLt⟩

/-- A magnitude over the extended reals. -/
noncomputable def mag (x : EReal) : EReal := max x (-x)

/-- A magnitude is not negative. -/
theorem mag_nonneg (x : EReal) : 0 ≤ mag x := by
  unfold mag
  rcases le_total 0 x with h | h
  · exact h.trans (le_max_left _ _)
  · exact (EReal.neg_nonneg.2 h).trans (le_max_right _ _)

theorem slab_apply {n : ℕ} (w : Vec Ideal ⟨2, ![256, n]⟩ .bf16) (k : Fin 16) (i : (⟨2, ![16, n]⟩ : Shape).Idx) :
    absf (F := Ideal) (slab w k) i = mag (w (at16 k i)) := by
  have e : slab (F := Ideal) w k i = w (at16 k i) := by
    unfold slab extractStridedSlice
    dsimp only
    congr 1
    funext a
    apply Fin.ext
    match a with
    | ⟨0, _⟩ => rfl
    | ⟨1, _⟩ => show 0 + (i 1).val = (i 1).val; omega
  show mag (slab (F := Ideal) w k i) = _
  rw [e]

/-- The first slabs' maximum is at most `u` when each of their magnitudes is. -/
theorem peak_le {n : ℕ} (w : Vec Ideal ⟨2, ![256, n]⟩ .bf16) (i : (⟨2, ![16, n]⟩ : Shape).Idx) (u : EReal) (k : ℕ) (h : k < 16) :
    (peak (F := Ideal) w k h i : EReal) ≤ u ↔ ∀ q : Fin 16, q.val ≤ k → mag (w (at16 q i)) ≤ u := by
  induction k with
  | zero =>
    show (absf (F := Ideal) (slab w ⟨0, h⟩) i : EReal) ≤ u ↔ _
    rw [slab_apply]
    exact ⟨fun hu q hq => by rwa [show q = ⟨0, h⟩ from Fin.ext (Nat.le_zero.1 hq)], fun hu => hu _ le_rfl⟩
  | succ k ih =>
    show max (peak (F := Ideal) w k (Nat.lt_of_succ_lt h) i : EReal) (absf (F := Ideal) (slab w ⟨k + 1, h⟩) i) ≤ u ↔ _
    rw [max_le_iff, ih, slab_apply]
    refine ⟨fun hu q hq => ?_, fun hu => ⟨fun q hq => hu q (by omega), hu _ le_rfl⟩⟩
    by_cases e : q.val ≤ k
    · exact hu.1 q e
    · rw [show q = ⟨k + 1, h⟩ from Fin.ext (by show q.val = k + 1; omega)]
      exact hu.2

/-- The running maximum after a block is at most `u` when it was before and every magnitude in the block is. -/
theorem advance_le {n : ℕ} (w : Vec Ideal ⟨2, ![256, n]⟩ .bf16) (before : Vec Ideal ⟨2, ![16, n]⟩ .bf16)
    (i : (⟨2, ![16, n]⟩ : Shape).Idx) (u : EReal) :
    (advance (F := Ideal) w before i : EReal) ≤ u ↔ (before i : EReal) ≤ u ∧ ∀ q : Fin 16, mag (w (at16 q i)) ≤ u := by
  show max (before i : EReal) (peak (F := Ideal) w 15 (by decide) i) ≤ u ↔ _
  rw [max_le_iff, peak_le]
  exact and_congr_right fun _ => ⟨fun h q => h q (by have := q.isLt; omega), fun h q _ => h q⟩

/-- Minus infinity, the pattern every maximum starts from, is the least extended real. -/
theorem bits_bot : Ideal.ofBits .f32 0xFF800000#32 = ⊥ := by
  simp [Ideal.ofBits, Ideal.ieee]

/-- The largest entry is at most `u` when every entry is. -/
theorem total_le {a b : ℕ} (v : FVec Ideal ⟨2, ![a, b]⟩ .f32) (h : Shape.ShapeCasts (⟨2, ![a, b]⟩ : Shape) ⟨3, ![1, a, b]⟩)
    (h' : Shape.Reduces (⟨3, ![1, a, b]⟩ : Shape) [1, 2] ⟨1, ![1]⟩) (j : (⟨2, ![1, 1]⟩ : Shape).Idx) (u : EReal) :
    (total v h h' j : EReal) ≤ u ↔ ∀ i, (v i : EReal) ≤ u := by
  refine (iff_of_eq (congrArg (fun x : EReal => x ≤ u) (multiReduction_maximumf_eq_fold (F := Ideal)
    (shapeCast ⟨3, ![1, a, b]⟩ v h) 0xFF800000#32 h' (.inl rfl) rfl _))).trans ?_
  refine Iff.trans (b := ∀ i, (shapeCast ⟨3, ![1, a, b]⟩ v h i : EReal) ≤ u) ?_ ?_
  · refine (Finset.fold_max_le u).trans ?_
    rw [show (FloatOps.ofBits FTy.f32 0xFF800000#32 : Ideal .f32) = (⊥ : EReal) from bits_bot]
    refine ⟨fun hu i => hu.2 i (Finset.mem_filter.2 ⟨Finset.mem_univ _, ?_⟩), fun hu => ⟨bot_le, fun i _ => hu i⟩⟩
    funext b'
    apply Fin.ext
    match b' with
    | ⟨0, _⟩ =>
      have h1 := (h'.drop i ⟨0, by decide⟩).isLt
      change _ < 1 at h1
      refine (Nat.lt_one_iff.1 h1).trans (Nat.lt_one_iff.1 ?_).symm
      exact Fin.isLt _
  · exact ⟨fun hu i => by
      have := hu ((Shape.reshapeEquiv h).symm i)
      change (v (Shape.reshapeEquiv h ((Shape.reshapeEquiv h).symm i)) : EReal) ≤ u at this
      rwa [Equiv.apply_symm_apply] at this, fun hu i => hu _⟩

end Cert.Absmax
-- ==== Proof.Quantise.lean ====
/-
  THE QUANTISER ON ONE NUMBER: times the inverse of the scale, clipped to the format's largest finite value. Over the
  extended reals the conversions between formats keep the number, so the kernel, which multiplies and clips in bf16, and the
  reference, which does so in f32, both compute this.
-/
module

public import proofs.«01_k».proof.Proof.Scale

@[expose] public section

namespace Cert.Quantise

open Idealize.ShloMosaic

/-- `x` times `inv`, clipped to `[-L, L]`. -/
noncomputable def clip (L : ℝ) (inv x : EReal) : EReal := min (L : EReal) (max ((-L : ℝ) : EReal) (x * inv))

theorem bf16_448 : Ideal.ofBits .bf16 0x43E0#16 = ((448 : ℝ) : EReal) := by
  simp [Ideal.ofBits, Ideal.ieee, -EReal.coe_mul, -EReal.coe_neg]; norm_num
theorem bf16_neg_448 : Ideal.ofBits .bf16 0xC3E0#16 = ((-448 : ℝ) : EReal) := by
  simp [Ideal.ofBits, Ideal.ieee, -EReal.coe_mul, -EReal.coe_neg]; norm_num
theorem f32_448 : Ideal.ofBits .f32 0x43E00000#32 = ((448 : ℝ) : EReal) := by
  simp [Ideal.ofBits, Ideal.ieee, -EReal.coe_mul, -EReal.coe_neg]; norm_num
theorem f32_neg_448 : Ideal.ofBits .f32 0xC3E00000#32 = ((-448 : ℝ) : EReal) := by
  simp [Ideal.ofBits, Ideal.ieee, -EReal.coe_mul, -EReal.coe_neg]; norm_num
theorem bf16_57344 : Ideal.ofBits .bf16 0x4760#16 = ((57344 : ℝ) : EReal) := by
  simp [Ideal.ofBits, Ideal.ieee, -EReal.coe_mul, -EReal.coe_neg]; norm_num
theorem bf16_neg_57344 : Ideal.ofBits .bf16 0xC760#16 = ((-57344 : ℝ) : EReal) := by
  simp [Ideal.ofBits, Ideal.ieee, -EReal.coe_mul, -EReal.coe_neg]; norm_num
theorem f32_57344 : Ideal.ofBits .f32 0x47600000#32 = ((57344 : ℝ) : EReal) := by
  simp [Ideal.ofBits, Ideal.ieee, -EReal.coe_mul, -EReal.coe_neg]; norm_num
theorem f32_neg_57344 : Ideal.ofBits .f32 0xC7600000#32 = ((-57344 : ℝ) : EReal) := by
  simp [Ideal.ofBits, Ideal.ieee, -EReal.coe_mul, -EReal.coe_neg]; norm_num

/-- The index of a 1×1 array. -/
abbrev o : Scale.One.Idx := fun a => match a with
  | ⟨0, _⟩ => ⟨0, Nat.one_pos⟩
  | ⟨1, _⟩ => ⟨0, Nat.one_pos⟩

/-- A 1×1 array spread over a larger one holds its one number everywhere. -/
theorem spread {α : Type} (t : Shape) (x : Scale.One.Idx → α) (h : Scale.One.Broadcasts t) (j : t.Idx) : broadcastTo t x h j = x o :=
  congrArg x (Scale.index_eq _ _)

section
variable (S : Shape) (inv : FVec Ideal Scale.One .f32) (h : Scale.One.Broadcasts S) (i : S.Idx)

/-- The kernel's codes in e4m3. -/
theorem kernel_e4m3 (w : FVec Ideal S .bf16) :
    (truncf .fp8e4m3 (minimumf (broadcast S (Scalar.ofBits .bf16 0x43E0#16)) (maximumf (broadcast S (Scalar.ofBits .bf16 0xC3E0#16))
      (mulf w (broadcastTo S (truncf .bf16 inv (by decide)) h)))) (by decide) : FVec Ideal S .fp8e4m3) i = clip 448 (inv o) (w i) := by
  show min (Ideal.ofBits .bf16 0x43E0#16) (max (Ideal.ofBits .bf16 0xC3E0#16) (w i * broadcastTo S inv h i)) = _
  rw [bf16_448, bf16_neg_448, spread]; rfl

/-- The kernel's codes in e5m2. -/
theorem kernel_e5m2 (w : FVec Ideal S .bf16) :
    (truncf .fp8e5m2 (minimumf (broadcast S (Scalar.ofBits .bf16 0x4760#16)) (maximumf (broadcast S (Scalar.ofBits .bf16 0xC760#16))
      (mulf w (broadcastTo S (truncf .bf16 inv (by decide)) h)))) (by decide) : FVec Ideal S .fp8e5m2) i = clip 57344 (inv o) (w i) := by
  show min (Ideal.ofBits .bf16 0x4760#16) (max (Ideal.ofBits .bf16 0xC760#16) (w i * broadcastTo S inv h i)) = _
  rw [bf16_57344, bf16_neg_57344, spread]; rfl

end

end Cert.Quantise
-- ==== Proof.Weight.Equation.lean ====
/-
  THE QUANTISED WEIGHT. What `weight_quant` leaves in its two result arrays — every entry of the weight as a code, and the
  weight's absolute maximum — is what the reference computes.
-/
module

public import proofs.«01_k».proof.Proof.Weight.Points
public import proofs.«01_k».proof.Proof.Scale
public import proofs.«01_k».proof.Proof.Absmax
public import proofs.«01_k».proof.Proof.Quantise
public import proofs.«01_k».proof.Proof.Gen.WeightRefIdeal.Value

@[expose] public section

set_option maxRecDepth 16384

noncomputable section

namespace Cert.WeightIdeal.Equation

open Cert.WeightIdeal Cert.WeightIdeal.Gen Cert.WeightIdeal.Points Idealize.ShloMosaic Idealize.ShloMosaic.TcCoe
open Cert.Quantise

/-! ## The kernel's operations named -/

section
variable {F : FTy → Type} [FloatOps F]

/-- The kernel's inverse scale is the climb's. -/
theorem inv_eq (r : Vec F S1x16 .f32) : inv r = Scale.inverseOf (Scale.magnitude 0x3B124925#32 r) := rfl

/-- The kernel's step of the running maximum takes the sixteen slabs. -/
theorem advance_eq (w : Vec F S256x4096 .bf16) (before : Vec F S16x4096 .bf16) : advance w before = Absmax.advance w before := by
  unfold advance k0_pay1
  dsimp only
  rw [shapeCast_self]
  rfl

/-- The kernel's last step takes the largest entry. -/
theorem amax_eq (v : Vec F S16x4096 .bf16) :
    k0_pay2 v = Absmax.total (extf .f32 v bitsLt_bf16_f32) shapeCasts_S16x4096_S1x16x4096 reduces_S1x16x4096_S1 := rfl

end

/-! ## The blocks and the fold over the points -/

variable (m : (ℓ : Loc nD τ sig) → Buf (Elt Ideal) ℓ) (c : Dev nD)

/-- The weight and the history, as launched. -/
def weight : Vec Ideal S2048x4096 .bf16 := m ((c : Thread nD τ).loc main_arg0)
@[inherit_doc weight]
def hist : Vec Ideal S3x16 .f32 := m ((c : Thread nD τ).loc main_arg1)

/-- Every point's history block is the whole history. -/
theorem hist_block (t : Fin cfg0.N) : iblk m c 0 t = hist m c := by
  have e0 : win0_0.index t (0 : Fin 2) = 0 := (by decide +kernel : ∀ t : Fin grid0.N, win0_0.index t (0 : Fin 2) = 0) t
  have e1 : win0_0.index t (1 : Fin 2) = 0 := (by decide +kernel : ∀ t : Fin grid0.N, win0_0.index t (1 : Fin 2) = 0) t
  funext i
  unfold iblk
  rw [View.read_apply]
  show V m c main_arg1 _ = _
  rw [V_main_arg1]
  unfold hist
  congr 1
  funext a
  apply Fin.ext
  match a with
  | ⟨0, _⟩ => show win0_0.index t (0 : Fin 2) * 3 + 1 * (i 0).val = (i 0).val; rw [e0]; omega
  | ⟨1, _⟩ => show win0_0.index t (1 : Fin 2) * 16 + 1 * (i 1).val = (i 1).val; rw [e1]; omega

/-- Row `256 t + r`, column `j` of the weight. -/
def atBlock (t : ℕ) (ht : t < 8) (i : S256x4096.Idx) : S2048x4096.Idx := fun a => match a with
  | ⟨0, _⟩ => ⟨256 * t + (i 0).val, by have h : (i 0).val < 256 := (i 0).isLt; show _ < 2048; omega⟩
  | ⟨1, _⟩ => ⟨(i 1).val, (i 1).isLt⟩

/-- Point `t`'s block of the weight is its rows `256 t` to `256 t + 255`. -/
theorem weight_block (t : Fin cfg0.N) (i : S256x4096.Idx) :
    iblk m c 1 t i = weight m c (atBlock t.val (lt_of_lt_of_eq t.isLt N_0) i) := by
  have e0 : win0_1.index t (0 : Fin 2) = t.val := (by decide +kernel : ∀ t : Fin grid0.N, win0_1.index t (0 : Fin 2) = t.val) t
  have e1 : win0_1.index t (1 : Fin 2) = 0 := (by decide +kernel : ∀ t : Fin grid0.N, win0_1.index t (1 : Fin 2) = 0) t
  unfold iblk
  rw [View.read_apply]
  show V m c main_arg0 _ = _
  rw [V_main_arg0]
  unfold weight
  congr 1
  funext a
  apply Fin.ext
  match a with
  | ⟨0, _⟩ => show win0_1.index t (0 : Fin 2) * 256 + 1 * (i 0).val = 256 * t.val + (i 0).val; rw [e0]; omega
  | ⟨1, _⟩ => show win0_1.index t (1 : Fin 2) * 4096 + 1 * (i 1).val = (i 1).val; rw [e1]; omega

/-- The running maximum after point `n`. -/
def maxAt : (n : ℕ) → n < cfg0.N → Vec Ideal S16x4096 .bf16
  | 0, h => advance (F := Ideal) (iblk m c 1 ⟨0, h⟩) (k0_pay14 (F := Ideal))
  | n + 1, h => advance (F := Ideal) (iblk m c 1 ⟨n + 1, h⟩) (maxAt n (Nat.lt_of_succ_lt h))

/-- Every point leaves its block's codes. -/
theorem left_codes (n : ℕ) (h : n < cfg0.N) : (outsAt0 m c n h).1 = codes (hist m c) (iblk m c 1 ⟨n, h⟩) := by
  have hN : n < 8 := lt_of_lt_of_eq h N_0
  by_cases h0 : n % 8 = 0 <;> by_cases h1 : n % 8 = 7
  · omega
  · rw [outsAt0_A m c ⟨n, h⟩ h0 h1]; dsimp only; rw [codes_A, hist_block]
  · rw [outsAt0_C m c ⟨n, h⟩ h0 h1]; dsimp only; rw [codes_C, hist_block]
  · rw [outsAt0_B m c ⟨n, h⟩ h0 h1]; dsimp only; rw [codes_B, hist_block]

/-- Every point but the last leaves the running maximum. -/
theorem left_max (n : ℕ) (h : n < cfg0.N) (h7 : n < 7) : (outsAt0 m c n h).2.2 = maxAt m c n h := by
  induction n with
  | zero => rw [outsAt0_A m c ⟨0, h⟩ (Nat.zero_mod _) (by show ¬0 % 8 = 7; decide)]; dsimp only; rw [max_A]; rfl
  | succ n ih =>
    rw [outsAt0_B m c ⟨n + 1, h⟩ (by show ¬(n + 1) % 8 = 0; omega) (by show ¬(n + 1) % 8 = 7; omega)]
    dsimp only
    rw [max_B]
    show advance _ (outsAt0 m c n _).2.2 = _
    rw [ih (Nat.lt_of_succ_lt h) (by omega)]
    rfl

/-- The last point leaves the largest entry of the running maximum. -/
theorem left_amax (h : 7 < cfg0.N) : (outsAt0 m c 7 h).2.1 = k0_pay2 (maxAt m c 7 h) := by
  rw [outsAt0_C m c ⟨7, h⟩ (by show ¬7 % 8 = 0; decide) (by show 7 % 8 = 7; decide)]
  dsimp only
  rw [amax_C]
  show k0_pay2 (advance _ (outsAt0 m c 6 _).2.2) = _
  rw [left_max m c 6 _ (by decide)]
  rfl

/-! ## The codes -/

/-- Entry `i` of the first result. -/
theorem codes_entry (i : S2048x4096.Idx) :
    Value.G2 m c i = clip 448 (Scale.inverseOf (Scale.magnitude 0x3B124925#32 (row (hist m c))) o) (weight m c i) := by
  have hi : (i 0).val < 2048 := (i 0).isLt
  have hj : (i 1).val < 4096 := (i 1).isLt
  have hN : cfg0.N = 8 := N_0
  have hp : Value.pt2Of i = (i 0).val / 256 := by
    show 1 * ((i 0).val / 256 - 0) + 1 * ((i 1).val / 4096 - 0) = _; omega
  have hlt : Value.pt2Of i < cfg0.N := by rw [hp, hN]; omega
  unfold Value.G2
  rw [dif_pos hlt, ← Value.outsAt0_sweep m c _ hlt, left_codes]
  unfold codes
  rw [inv_eq]
  refine (kernel_e4m3 S256x4096 _ _ (Value.loc2Of i) _).trans ?_
  rw [weight_block]
  congr 2
  funext a
  apply Fin.ext
  match a with
  | ⟨0, _⟩ => show 256 * Value.pt2Of i + (i 0).val % 256 = (i 0).val; rw [hp]; omega
  | ⟨1, _⟩ => show (i 1).val % 4096 = (i 1).val; omega

/-! ## The absolute maximum -/

/-- The running maximum after point `n` is at most `u` when `u` is not negative and bounds the magnitudes of the rows so far
    that share the entry's place among sixteen. -/
theorem maxAt_le (n : ℕ) (h : n < cfg0.N) (i : S16x4096.Idx) (u : EReal) :
    (maxAt m c n h i : EReal) ≤ u ↔ 0 ≤ u ∧ ∀ (t : ℕ) (ht : t < 8), t ≤ n → ∀ q : Fin 16,
      Absmax.mag (weight m c (atBlock t ht (Absmax.at16 q i))) ≤ u := by
  induction n with
  | zero =>
    unfold maxAt
    rw [advance_eq, Absmax.advance_le]
    have e : (k0_pay14 (F := Ideal) i : EReal) = 0 := by
      unfold k0_pay14
      simp only [shapeCast_self]
      exact Ideal.ofBits_zero_bf16
    rw [e]
    refine and_congr_right fun _ => ⟨fun hu t ht h0 q => ?_, fun hu q => ?_⟩
    · obtain rfl : t = 0 := by omega
      have := hu q
      rwa [weight_block] at this
    · rw [weight_block]
      exact hu 0 (by decide) le_rfl q
  | succ n ih =>
    unfold maxAt
    rw [advance_eq, Absmax.advance_le, ih, and_assoc]
    refine and_congr_right fun _ => ⟨fun hu t ht h0 q => ?_, fun hu => ⟨fun t ht h0 => hu t ht (by omega), fun q => ?_⟩⟩
    · by_cases e : t ≤ n
      · exact hu.1 t ht e q
      · obtain rfl : t = n + 1 := by omega
        have := hu.2 q
        rwa [weight_block] at this
    · rw [weight_block]
      exact hu (n + 1) (lt_of_lt_of_eq h N_0) le_rfl q

/-- The second result. -/
def amaxOut : Vec Ideal S1x1 .f32 := Value.G3 m c

/-- The second result is at most `u` when every magnitude in the weight is. -/
theorem amax_le (j : S1x1.Idx) (u : EReal) : (amaxOut m c j : EReal) ≤ u ↔ ∀ i, Absmax.mag (weight m c i) ≤ u := by
  unfold amaxOut
  rw [Value.G3_last, ← Value.outsAt0_sweep m c 7 (lt_of_lt_of_eq (by decide) N_0.symm), left_amax, amax_eq, Absmax.total_le]
  constructor
  · intro hu i
    have hi : (i 0).val < 2048 := (i 0).isLt
    have hj : (i 1).val < 4096 := (i 1).isLt
    have := ((maxAt_le m c 7 _ (fun a => match a with
      | ⟨0, _⟩ => ⟨(i 0).val % 16, Nat.mod_lt _ (by decide)⟩
      | ⟨1, _⟩ => ⟨(i 1).val, hj⟩) u).1 (hu _)).2 ((i 0).val / 256) (by omega) (by omega) ⟨(i 0).val % 256 / 16, by omega⟩
    convert this using 3
    funext a
    apply Fin.ext
    match a with
    | ⟨0, _⟩ => show (i 0).val = 256 * ((i 0).val / 256) + (16 * ((i 0).val % 256 / 16) + (i 0).val % 16); omega
    | ⟨1, _⟩ => rfl
  · intro hu i
    refine (maxAt_le m c 7 _ i u).2 ⟨(Absmax.mag_nonneg _).trans (hu (fun a => match a with
      | ⟨0, _⟩ => ⟨0, by show 0 < 2048; decide⟩
      | ⟨1, _⟩ => ⟨0, by show 0 < 4096; decide⟩)), fun t ht _ q => hu _⟩

/-! ## The reference -/

/-- Entry `i` of the reference's codes. -/
theorem ref_codes (w : Vec Ideal S2048x4096 .bf16) (h : Vec Ideal S3x16 .f32) (i : S2048x4096.Idx) :
    WeightRefIdeal.Gen.k0_pay2 (row h) w i
      = clip 448 (Scale.inverseOf (Scale.magnitude 0x3B124925#32 (row h)) o) (w i) := by
  rw [Scale.inverseOf_eq]
  show min (Ideal.ofBits .f32 0x43E00000#32) (max (Ideal.ofBits .f32 0xC3E00000#32)
    (w i * broadcastTo S2048x4096 (exp2 (subf (Scale.const 0x00000000#32) (Scale.exponent (Scale.magnitude (F := Ideal) 0x3B124925#32 (row h)))))
      WeightRefIdeal.Gen.broadcasts_S1x1_S2048x4096 i)) = _
  rw [f32_448, f32_neg_448, spread]
  rfl

/-- The reference's absolute maximum is at most `u` when every magnitude in the weight is. -/
theorem ref_amax_le (w : Vec Ideal S2048x4096 .bf16) (j : S1x1.Idx) (u : EReal) :
    (WeightRefIdeal.Gen.k0_pay1 w j : EReal) ≤ u ↔ ∀ i, Absmax.mag (w i) ≤ u :=
  Absmax.total_le (absf (extf .f32 w bitsLt_bf16_f32)) WeightRefIdeal.Gen.shapeCasts_S2048x4096_S1x2048x4096
    WeightRefIdeal.Gen.reduces_S1x2048x4096_S1 j u

/-! ## The two programs agree -/

/-- The kernel's codes are the reference's. -/
theorem codes_same : Value.G2 m c = WeightRefIdeal.Value.G2 (F := Ideal) (weight m c) (hist m c) := by
  funext i
  exact (codes_entry m c i).trans (ref_codes (weight m c) (hist m c) i).symm

/-- The kernel's absolute maximum is the reference's. -/
theorem amax_same : Value.G3 m c = WeightRefIdeal.Value.G3 (F := Ideal) (weight m c) (hist m c) := by
  funext j
  exact eq_of_forall_ge_iff (α := EReal) fun u => (amax_le m c j u).trans (ref_amax_le (weight m c) j u).symm

end Cert.WeightIdeal.Equation
-- ==== Proof.Weight.Agree.lean ====
/-
  The first call and its reference, run from the same arguments, end with the same two results.
-/
module

public import proofs.«01_k».proof.Defs
public import proofs.«01_k».proof.Proof.Gen.WeightIdeal
public import proofs.«01_k».proof.Proof.Gen.WeightRefIdeal
public import proofs.«01_k».proof.Proof.Weight.Equation

@[expose] public section

namespace Cert.WeightIdeal.Agree

open Idealize.ShloMosaic Idealize.ShloMosaic.TcCoe Idealize.SL.Sem

/-- The kernel's two results are the reference's, and both runs leave the arguments as they were. -/
theorem algebraic : @Cert.algebraic_WeightIdeal_WeightRefIdeal Cert.WeightIdeal.Gen.facts Cert.WeightRefIdeal.Gen.facts :=
  fun m ρ m' ρ' _ hag =>
    ⟨fun c => Value.G2 m c, fun c => Value.G3 m c, Value.run m ρ,
      (θ_run _ _ _).mono (fun r h c => by
        obtain ⟨h0, h1, k0, k1⟩ := h c
        obtain ⟨a0, a1⟩ := hag c
        refine ⟨h0.trans ?_, h1.trans ?_, k0, k1⟩
        · rw [a0, a1]; exact (Equation.codes_same m c).symm
        · rw [a0, a1]; exact (Equation.amax_same m c).symm)
        (WeightRefIdeal.Value.run m' ρ')⟩

end Cert.WeightIdeal.Agree
-- ==== Proof.Step.Values.lean ====
/- What one grid point of `linear_step` computes, as functions of the blocks it loads.

   Each definition is the composition of the kernel's own operations between its loads and the store it feeds, named after
   what is stored: the three scales, the codes of the two blocks, the running maxima of magnitudes, the two products written
   per block, the accumulated product, and the new history of the last point. -/
module

public import proofs.«01_k».proof.Proof.Gen.KernelIdeal.Frame
public import proofs.«01_k».proof.Proof.Gen.KernelIdeal.Skeleton
public import Idealize.ShloMosaic.Lib.Pipeline.Value

@[expose] public section

noncomputable section

namespace Cert.KernelIdeal.Step

open Idealize.ShloMosaic Idealize.ShloMosaic.TcCoe
open Cert.KernelIdeal.Gen

variable {F : FTy → Type} [FloatOps F]

/-- The history's row 0, 1 or 2, as the kernel loads it. -/
def row0 (h : Vec F S3x16 .f32) : Vec F S1x16 .f32 :=
  View.ld (Val := Elt F) h (Rect.unit (s := S3x16) ![0, 0] S1x16.size inb_S3x16_S1x16_0_0)
@[inherit_doc row0]
def row1 (h : Vec F S3x16 .f32) : Vec F S1x16 .f32 :=
  View.ld (Val := Elt F) h (Rect.unit (s := S3x16) ![1, 0] S1x16.size inb_S3x16_S1x16_1_0)
@[inherit_doc row0]
def row2 (h : Vec F S3x16 .f32) : Vec F S1x16 .f32 :=
  View.ld (Val := Elt F) h (Rect.unit (s := S3x16) ![2, 0] S1x16.size inb_S3x16_S1x16_2_0)

/-! ## The scales of the three rows -/

/-- The activations' scale and its reciprocal: what is left of the row's magnitude after the first five comparisons, the
    sixth comparison, and the two powers of two built from them. -/
def xLeft (r : Vec F S1x16 .f32) : FVec F S1x1 .f32 := k0_pay24 (k0_pay13 r) (k0_pay16 r) k0_pay17
@[inherit_doc xLeft]
def xMore (r : Vec F S1x16 .f32) : IVec S1x1 1 := k0_pay27 (k0_pay13 r) (k0_pay16 r) k0_pay17
@[inherit_doc xLeft]
def xScale (r : Vec F S1x16 .f32) : FVec F S1x1 .f32 :=
  k0_pay32 (xLeft r) (k0_pay25 (k0_pay13 r) (k0_pay14 r) (k0_pay16 r) k0_pay17) (xMore r) k0_pay28
@[inherit_doc xLeft]
def xInv (r : Vec F S1x16 .f32) : FVec F S1x1 .f32 :=
  k0_pay33 (xLeft r) (k0_pay26 (k0_pay13 r) (k0_pay15 r) (k0_pay16 r) k0_pay17) (xMore r) k0_pay28

/-- The weights' scale. -/
def wScale (r : Vec F S1x16 .f32) : FVec F S1x1 .f32 :=
  k0_pay50 (k0_pay47 (k0_pay34 r) k0_pay35 k0_pay36) (k0_pay48 (k0_pay34 r) k0_pay36) (k0_pay49 (k0_pay34 r) k0_pay36)

/-- The gradients' scale, and the pair its reciprocal is selected from: what is left after the fifth comparison, the sixth
    comparison, the reciprocal before the last comparison and that comparison. -/
def dyLeft (r : Vec F S1x16 .f32) : FVec F S1x1 .f32 := k0_pay61 (k0_pay51 r) (k0_pay54 r)
@[inherit_doc dyLeft]
def dyMore (r : Vec F S1x16 .f32) : IVec S1x1 1 := k0_pay64 (k0_pay51 r) (k0_pay54 r)
@[inherit_doc dyLeft]
def dyLast (r : Vec F S1x16 .f32) : IVec S1x1 1 := k0_pay73 (dyLeft r) (dyMore r)
@[inherit_doc dyLeft]
def dyInvBefore (r : Vec F S1x16 .f32) : FVec F S1x1 .f32 :=
  k0_pay72 (dyLeft r) (k0_pay63 (k0_pay51 r) k0_pay53 (k0_pay54 r)) (dyMore r)
@[inherit_doc dyLeft]
def dyScale (r : Vec F S1x16 .f32) : FVec F S1x1 .f32 :=
  k0_pay74 (k0_pay71 (dyLeft r) (k0_pay62 (k0_pay51 r) k0_pay52 (k0_pay54 r)) (dyMore r)) (dyLast r)

/-! ## The codes of a block, the running maxima and the products -/

/-- The codes of a block of activations. -/
def xCodes (h : Vec F S3x16 .f32) (x : Vec F S256x2048 .bf16) : FVec F S256x2048 .fp8e4m3 := k0_pay80 (xInv (row0 h)) x
/-- The codes of a block of gradients. -/
def dyCodes (h : Vec F S3x16 .f32) (dy : Vec F S256x4096 .bf16) : FVec F S256x4096 .fp8e5m2 :=
  k0_pay81 (dyInvBefore (row2 h)) (dyLast (row2 h)) dy
/-- The activations' running maxima after a block, from those before it. -/
def xMax (x : Vec F S256x2048 .bf16) (before : Vec F S16x2048 .bf16) : FVec F S16x2048 .bf16 :=
  k0_pay84 (k0_pay78 x) before (k0_pay82 x) (k0_pay83 x)
/-- The gradients' running maxima after a block, from those before it. -/
def dyMax (dy : Vec F S256x4096 .bf16) (before : Vec F S16x4096 .bf16) : FVec F S16x4096 .bf16 :=
  k0_pay87 (k0_pay79 dy) before (k0_pay85 (k0_pay79 dy)) (k0_pay86 (k0_pay79 dy))
/-- The block of the forward product. -/
def yBlock (h : Vec F S3x16 .f32) (x : Vec F S256x2048 .bf16) (w : Vec F S2048x4096 .fp8e4m3) : FVec F S256x4096 .bf16 :=
  k0_pay88 (xScale (row0 h)) (wScale (row1 h)) (xCodes h x) w
/-- The block of the product with the gradients. -/
def dxBlock (h : Vec F S3x16 .f32) (dy : Vec F S256x4096 .bf16) (w : Vec F S2048x4096 .fp8e4m3) : FVec F S256x2048 .bf16 :=
  k0_pay1 (k0_pay89 (dyCodes h dy) w) (k0_pay90 (wScale (row1 h)) (dyScale (row2 h)))
/-- The accumulated product after a block, from the one before it. -/
def dwStep (h : Vec F S3x16 .f32) (x : Vec F S256x2048 .bf16) (dy : Vec F S256x4096 .bf16) (before : Vec F S2048x4096 .f32) :
    FVec F S2048x4096 .f32 := k0_pay2 (xCodes h x) (dyCodes h dy) before
/-- The accumulated product times the two scales: the last point's. -/
def dwScaled (h : Vec F S3x16 .f32) (acc : Vec F S2048x4096 .f32) : FVec F S2048x4096 .f32 :=
  k0_pay4 (xScale (row0 h)) (dyScale (row2 h)) acc

/-! ## The new history -/

/-- The history's slot a step writes: the step modulo sixteen, as the kernel reduces it. -/
def slot (step : BitVec 32) : BitVec 32 :=
  let n : BitVec 32 := Scalar.select (Scalar.cmpi .eq 16#32 0#32) 1#32 16#32
  let r : BitVec 32 := Scalar.remsi step n
  Scalar.select (Scalar.andi (Scalar.xori (Scalar.cmpi .slt r 0#32) (Scalar.cmpi .slt n 0#32)) (Scalar.cmpi .ne r 0#32))
    (Scalar.addi r n) r

/-- The new history of the last point: the maxima of the two running maxima and the weights' written into the slot. -/
def newHist (h : Vec F S3x16 .f32) (step : BitVec 32) (wamax : Vec F S1x1 .f32) (xrun : Vec F S16x2048 .bf16)
    (dyrun : Vec F S16x4096 .bf16) : FVec F S3x16 .f32 :=
  k0_pay3 (k0_pay5 xrun) (k0_pay6 dyrun) h (slot step) (iota .tc S3x16 32 [1] iota_S3x16_d1_w32) k0_pay7 k0_pay8 wamax

/-- The step's word, read out of the one-word table. -/
def stepWord (s : Vec F S1 .i32) : BitVec 32 := s (Shape.Idx.first (by decide))

end Cert.KernelIdeal.Step

end
-- ==== Proof.Step.Base.lean ====
/- What the three runs of the body of `linear_step` share: the branch conditions over the points, where windows are idle, the
   staging buffers, and what a buffer holds after whole stores. -/
module

public import proofs.«01_k».proof.Proof.Step.Values
public import proofs.«01_k».proof.Proof.Whole
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Whole

variable {F : FTy → Type} [FloatOps F]

local notation "𝕄" => MT nD τ sig Unit (Elt F) ℕ (UR sig nD τ) ℕ

/-! ## The branch conditions, point by point -/

/-- The body's first conditional is taken at the first point only. -/
theorem first_iff : ∀ t : Fin cfg0.N, k0_cond1 (grid0.coords t) = 1#1 ↔ t.val = 0 :=
  (fun t => by
    have ht : t.val < 96 := Nat.lt_of_lt_of_eq t.isLt N_0
    have e0 : (grid0.coords t 0).val = t.val / 1 % 96 := Pipeline.Grid.coords_val t 0 (by decide) rfl
    have e1 : t.val = t.val % 96 := by omega
    rw [e1]
    simp only [k0_cond1, e0]
    word_cmp
   : ∀ t : Fin grid0.N, k0_cond1 (grid0.coords t) = 1#1 ↔ t.val = 0)

/-- The body's second conditional is taken at the last point only. -/
theorem last_iff : ∀ t : Fin cfg0.N, k0_cond2 (grid0.coords t) = 1#1 ↔ t.val = 95 :=
  (fun t => by
    have ht : t.val < 96 := Nat.lt_of_lt_of_eq t.isLt N_0
    have e0 : (grid0.coords t 0).val = t.val / 1 % 96 := Pipeline.Grid.coords_val t 0 (by decide) rfl
    have e1 : t.val = t.val % 96 := by omega
    rw [e1]
    simp only [k0_cond2, e0]
    word_cmp
   : ∀ t : Fin grid0.N, k0_cond2 (grid0.coords t) = 1#1 ↔ t.val = 95)

/-! ## The carried scratch -/

/-- The tokens' running maxima, as the scratch buffer that carries them. -/
abbrev scM0_0 : Memref sig .tc .vmem S16x2048 .bf16 := Memref.whole cc0_scratch0
/-- The gradients' running maxima, likewise. -/
abbrev scM0_1 : Memref sig .tc .vmem S16x4096 .bf16 := Memref.whole cc0_scratch1

/-- What the launch hands the region: the two scratch buffers at some contents and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## Where the windows are idle -/

/-- The three scales are stored at the first point. -/
theorem live_scales (t : Fin cfg0.N) (h : t.val = 0) :
    cfg0.idle 11 (grid0.coords t) = false ∧ cfg0.idle 12 (grid0.coords t) = false ∧ cfg0.idle 13 (grid0.coords t) = false := by
  have h1 : k0_cond1 (grid0.coords t) = 1#1 := (first_iff t).mpr h
  refine ⟨?_, ?_, ?_⟩ <;>
    · show (!(k0_cond1 (grid0.coords t) == 1#1)) = false
      simp [h1]
/-- And at no other point. -/
theorem idle_scales (t : Fin cfg0.N) (h : t.val ≠ 0) :
    cfg0.idle 11 (grid0.coords t) = true ∧ cfg0.idle 12 (grid0.coords t) = true ∧ cfg0.idle 13 (grid0.coords t) = true := by
  have h1 : ¬k0_cond1 (grid0.coords t) = 1#1 := fun h' => h ((first_iff t).mp h')
  refine ⟨?_, ?_, ?_⟩ <;>
    · show (!(k0_cond1 (grid0.coords t) == 1#1)) = true
      simp [h1]
/-- The new history is stored at the last point. -/
theorem live_hist (t : Fin cfg0.N) (h : t.val = 95) : cfg0.idle 14 (grid0.coords t) = false := by
  have h1 : k0_cond2 (grid0.coords t) = 1#1 := (last_iff t).mpr h
  show (!(k0_cond2 (grid0.coords t) == 1#1)) = false
  simp [h1]
/-- And at no other point. -/
theorem idle_hist (t : Fin cfg0.N) (h : t.val ≠ 95) : cfg0.idle 14 (grid0.coords t) = true := by
  have h1 : ¬k0_cond2 (grid0.coords t) = 1#1 := fun h' => h ((last_iff t).mp h')
  show (!(k0_cond2 (grid0.coords t) == 1#1)) = true
  simp [h1]
/-- The outputs of one block only are written back after the last point. -/
theorem noFlush (t : Fin cfg0.N) (h : t.val ≠ 95) : (cfg0.win 8).flush t = false ∧ (cfg0.win 11).flush t = false
    ∧ (cfg0.win 12).flush t = false ∧ (cfg0.win 13).flush t = false ∧ (cfg0.win 14).flush t = false := by
  have hN : t.val < 96 := lt_of_lt_of_eq t.isLt N_0
  refine ⟨?_, ?_, ?_, ?_, ?_⟩ <;> refine Bool.eq_false_iff.mpr fun hf => ?_
  · have := (flush0_8 t).mp hf; omega
  · have := (flush0_11 t).mp hf; omega
  · have := (flush0_12 t).mp hf; omega
  · have := (flush0_13 t).mp hf; omega
  · have := (flush0_14 t).mp hf; omega
theorem flush_scales (t : Fin cfg0.N) (h : t.val = 95) : (cfg0.win 11).flush t = true ∧ (cfg0.win 12).flush t = true
    ∧ (cfg0.win 13).flush t = true :=
  ⟨(flush0_11 t).mpr (by omega), (flush0_12 t).mpr (by omega), (flush0_13 t).mpr (by omega)⟩

end Cert.KernelIdeal.Step

end
-- ==== Proof.Step.RunMiddle.lean ====
/- The body at a point that is neither the first nor the last: it writes the four blocks and advances the product and the two running maxima. -/
module

public import proofs.«01_k».proof.Proof.Step.Base

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Whole

variable {F : FTy → Type} [FloatOps F]

local notation "𝕄" => MT nD τ sig Unit (Elt F) ℕ (UR sig nD τ) ℕ

variable (c : Dev nD) (i : grid0.Coords)
  (arg1 : Memref sig .tc .smem S1 .i32) (harg1 : arg1.IsWhole)
  (arg2 : Memref sig .tc .vmem S3x16 .f32) (harg2 : arg2.IsWhole)
  (arg3 : Memref sig .tc .vmem S1x1 .f32) (harg3 : arg3.IsWhole)
  (arg4 : Memref sig .tc .vmem S256x2048 .bf16) (harg4 : arg4.IsWhole)
  (arg5 : Memref sig .tc .vmem S256x4096 .bf16) (harg5 : arg5.IsWhole)
  (arg6 : Memref sig .tc .vmem S2048x4096 .fp8e4m3) (harg6 : arg6.IsWhole)
  (arg7 : Memref sig .tc .vmem S256x4096 .bf16) (harg7 : arg7.IsWhole)
  (arg8 : Memref sig .tc .vmem S256x2048 .bf16) (harg8 : arg8.IsWhole)
  (arg9 : Memref sig .tc .vmem S2048x4096 .f32) (harg9 : arg9.IsWhole)
  (arg10 : Memref sig .tc .vmem S256x2048 .fp8e4m3) (harg10 : arg10.IsWhole)
  (arg11 : Memref sig .tc .vmem S256x4096 .fp8e5m2) (harg11 : arg11.IsWhole)
  (arg12 : Memref sig .tc .vmem S1x1 .f32) (harg12 : arg12.IsWhole)
  (arg13 : Memref sig .tc .vmem S1x1 .f32) (harg13 : arg13.IsWhole)
  (arg14 : Memref sig .tc .vmem S1x1 .f32) (harg14 : arg14.IsWhole)
  (arg15 : Memref sig .tc .vmem S3x16 .f32) (harg15 : arg15.IsWhole)
  (arg16 : Memref sig .tc .vmem S16x2048 .bf16) (harg16 : arg16.IsWhole)
  (arg17 : Memref sig .tc .vmem S16x4096 .bf16) (harg17 : arg17.IsWhole)

set_option maxHeartbeats 2000000 in
/-- The body at a point that is neither the first nor the last: it writes the four blocks and advances the product and the two running maxima. -/
theorem run_middle (hc0 : ¬k0_cond1 i = 1#1) (hc1 : ¬k0_cond2 i = 1#1)
    (h : Vec F S3x16 .f32) (x : Vec F S256x2048 .bf16) (dy : Vec F S256x4096 .bf16) (w : Vec F S2048x4096 .fp8e4m3)
    (acc : Vec F S2048x4096 .f32) (xr : Vec F S16x2048 .bf16) (dyr : Vec F S16x4096 .bf16)
    (E : Set ℕ) (K : PUnit → sProp 𝕄) :
    iprop(owns (c : Thread nD τ) arg2 fullShare h
        ∗ owns (c : Thread nD τ) arg4 fullShare x
        ∗ owns (c : Thread nD τ) arg5 fullShare dy
        ∗ owns (c : Thread nD τ) arg6 fullShare w
        ∗ (∃ d, owns (c : Thread nD τ) arg7 fullShare d)
        ∗ (∃ d, owns (c : Thread nD τ) arg8 fullShare d)
        ∗ owns (c : Thread nD τ) arg9 fullShare acc
        ∗ (∃ d, owns (c : Thread nD τ) arg10 fullShare d)
        ∗ (∃ d, owns (c : Thread nD τ) arg11 fullShare d)
        ∗ owns (c : Thread nD τ) arg16 fullShare xr
        ∗ owns (c : Thread nD τ) arg17 fullShare dyr
        ∗ (iprop(owns (c : Thread nD τ) arg2 fullShare h
            ∗ owns (c : Thread nD τ) arg4 fullShare x
            ∗ owns (c : Thread nD τ) arg5 fullShare dy
            ∗ owns (c : Thread nD τ) arg6 fullShare w
            ∗ owns (c : Thread nD τ) arg7 fullShare (yBlock h x w)
            ∗ owns (c : Thread nD τ) arg8 fullShare (dxBlock h dy w)
            ∗ owns (c : Thread nD τ) arg9 fullShare (dwStep h x dy acc)
            ∗ owns (c : Thread nD τ) arg10 fullShare (xCodes h x)
            ∗ owns (c : Thread nD τ) arg11 fullShare (dyCodes h dy)
            ∗ owns (c : Thread nD τ) arg16 fullShare (xMax x xr)
            ∗ owns (c : Thread nD τ) arg17 fullShare (dyMax dy dyr))
            -∗ K ⟨⟩))
      ⊢ wp frame (wpE (defs₀ (F := F)) Variants.none c none) E
          (cc0_linear_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_linear_step_eq_skeleton]; unfold cc0_linear_step_skel
  simp only [k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton,
    k0_part1_eq_skeleton]
  unfold owns
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%d11, %f11, -, H11⟩, ⟨%f16, %hf16, H16⟩, ⟨%f17, %hf17, H17⟩, Hk⟩
  obtain rfl := harg2.eq_unread hf2; obtain rfl := harg4.eq_unread hf4; obtain rfl := harg5.eq_unread hf5; obtain rfl := harg6.eq_unread hf6; obtain rfl := harg9.eq_unread hf9; obtain rfl := harg16.eq_unread hf16; obtain rfl := harg17.eq_unread hf17
  sl_exec (disch := first | sl_exact hc0 | sl_exact hc1)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; refine (left_whole hz _ _ _ _).trans ?_
    sl_unfold_words
    simp only [left_cov, View.readAt_eq_ld, harg2.read_unread, harg4.read_unread, harg5.read_unread, harg6.read_unread, harg9.read_unread, harg16.read_unread, harg17.read_unread, ld_all]
    rfl
  isplitl [H8]
  · iexists _; isplitr
    swap; · iexact H8
    ipureintro; refine (left_whole hz _ _ _ _).trans ?_
    sl_unfold_words
    simp only [left_cov, View.readAt_eq_ld, harg2.read_unread, harg4.read_unread, harg5.read_unread, harg6.read_unread, harg9.read_unread, harg16.read_unread, harg17.read_unread, ld_all]
    rfl
  isplitl [H9]
  · iexists _; isplitr
    swap; · iexact H9
    ipureintro; refine (left_whole hz _ _ _ _).trans ?_
    sl_unfold_words
    simp only [left_cov, View.readAt_eq_ld, harg2.read_unread, harg4.read_unread, harg5.read_unread, harg6.read_unread, harg9.read_unread, harg16.read_unread, harg17.read_unread, ld_all]
    rfl
  isplitl [H10]
  · iexists _; isplitr
    swap; · iexact H10
    ipureintro; refine (left_whole hz _ _ _ _).trans ?_
    sl_unfold_words
    simp only [left_cov, View.readAt_eq_ld, harg2.read_unread, harg4.read_unread, harg5.read_unread, harg6.read_unread, harg9.read_unread, harg16.read_unread, harg17.read_unread, ld_all]
    rfl
  isplitl [H11]
  · iexists _; isplitr
    swap; · iexact H11
    ipureintro; refine (left_whole hz _ _ _ _).trans ?_
    sl_unfold_words
    simp only [left_cov, View.readAt_eq_ld, harg2.read_unread, harg4.read_unread, harg5.read_unread, harg6.read_unread, harg9.read_unread, harg16.read_unread, harg17.read_unread, ld_all]
    rfl
  isplitl [H16]
  · iexists _; isplitr
    swap; · iexact H16
    ipureintro; refine (left_whole hz _ _ _ _).trans ?_
    sl_unfold_words
    simp only [left_cov, View.readAt_eq_ld, harg2.read_unread, harg4.read_unread, harg5.read_unread, harg6.read_unread, harg9.read_unread, harg16.read_unread, harg17.read_unread, ld_all]
    rfl
  iexists _; isplitr
  swap; · iexact H17
  ipureintro; refine (left_whole hz _ _ _ _).trans ?_
  sl_unfold_words
  simp only [left_cov, View.readAt_eq_ld, harg2.read_unread, harg4.read_unread, harg5.read_unread, harg6.read_unread, harg9.read_unread, harg16.read_unread, harg17.read_unread, ld_all]
  rfl

end Cert.KernelIdeal.Step

end
-- ==== Proof.Step.RunFirst.lean ====
/- The body at the first point: it starts the product and the running maxima from zero and writes the three scales. -/
module

public import proofs.«01_k».proof.Proof.Step.RunMiddle

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Whole

variable {F : FTy → Type} [FloatOps F]

local notation "𝕄" => MT nD τ sig Unit (Elt F) ℕ (UR sig nD τ) ℕ

variable (c : Dev nD) (i : grid0.Coords)
  (arg1 : Memref sig .tc .smem S1 .i32) (harg1 : arg1.IsWhole)
  (arg2 : Memref sig .tc .vmem S3x16 .f32) (harg2 : arg2.IsWhole)
  (arg3 : Memref sig .tc .vmem S1x1 .f32) (harg3 : arg3.IsWhole)
  (arg4 : Memref sig .tc .vmem S256x2048 .bf16) (harg4 : arg4.IsWhole)
  (arg5 : Memref sig .tc .vmem S256x4096 .bf16) (harg5 : arg5.IsWhole)
  (arg6 : Memref sig .tc .vmem S2048x4096 .fp8e4m3) (harg6 : arg6.IsWhole)
  (arg7 : Memref sig .tc .vmem S256x4096 .bf16) (harg7 : arg7.IsWhole)
  (arg8 : Memref sig .tc .vmem S256x2048 .bf16) (harg8 : arg8.IsWhole)
  (arg9 : Memref sig .tc .vmem S2048x4096 .f32) (harg9 : arg9.IsWhole)
  (arg10 : Memref sig .tc .vmem S256x2048 .fp8e4m3) (harg10 : arg10.IsWhole)
  (arg11 : Memref sig .tc .vmem S256x4096 .fp8e5m2) (harg11 : arg11.IsWhole)
  (arg12 : Memref sig .tc .vmem S1x1 .f32) (harg12 : arg12.IsWhole)
  (arg13 : Memref sig .tc .vmem S1x1 .f32) (harg13 : arg13.IsWhole)
  (arg14 : Memref sig .tc .vmem S1x1 .f32) (harg14 : arg14.IsWhole)
  (arg15 : Memref sig .tc .vmem S3x16 .f32) (harg15 : arg15.IsWhole)
  (arg16 : Memref sig .tc .vmem S16x2048 .bf16) (harg16 : arg16.IsWhole)
  (arg17 : Memref sig .tc .vmem S16x4096 .bf16) (harg17 : arg17.IsWhole)

set_option maxHeartbeats 2000000 in
/-- The body at the first point: it starts the product and the running maxima from zero and writes the three scales. -/
theorem run_first (hc0 : k0_cond1 i = 1#1) (hc1 : ¬k0_cond2 i = 1#1)
    (h : Vec F S3x16 .f32) (x : Vec F S256x2048 .bf16) (dy : Vec F S256x4096 .bf16) (w : Vec F S2048x4096 .fp8e4m3)
    (E : Set ℕ) (K : PUnit → sProp 𝕄) :
    iprop(owns (c : Thread nD τ) arg2 fullShare h
        ∗ owns (c : Thread nD τ) arg4 fullShare x
        ∗ owns (c : Thread nD τ) arg5 fullShare dy
        ∗ owns (c : Thread nD τ) arg6 fullShare w
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg16 fullShare d)
        ∗ (∃ d, owns (c : Thread nD τ) arg17 fullShare d)
        ∗ (iprop(owns (c : Thread nD τ) arg2 fullShare h
            ∗ owns (c : Thread nD τ) arg4 fullShare x
            ∗ owns (c : Thread nD τ) arg5 fullShare dy
            ∗ owns (c : Thread nD τ) arg6 fullShare w
            ∗ owns (c : Thread nD τ) arg7 fullShare (yBlock h x w)
            ∗ owns (c : Thread nD τ) arg8 fullShare (dxBlock h dy w)
            ∗ owns (c : Thread nD τ) arg9 fullShare (dwStep h x dy k0_pay75)
            ∗ owns (c : Thread nD τ) arg10 fullShare (xCodes h x)
            ∗ owns (c : Thread nD τ) arg11 fullShare (dyCodes h dy)
            ∗ owns (c : Thread nD τ) arg12 fullShare (xScale (row0 h))
            ∗ owns (c : Thread nD τ) arg13 fullShare (wScale (row1 h))
            ∗ owns (c : Thread nD τ) arg14 fullShare (dyScale (row2 h))
            ∗ owns (c : Thread nD τ) arg16 fullShare (xMax x k0_pay76)
            ∗ owns (c : Thread nD τ) arg17 fullShare (dyMax dy k0_pay77))
            -∗ K ⟨⟩))
      ⊢ wp frame (wpE (defs₀ (F := F)) Variants.none c none) E
          (cc0_linear_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_linear_step_eq_skeleton]; unfold cc0_linear_step_skel
  simp only [k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton,
    k0_part1_eq_skeleton]
  unfold owns
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d16, %f16, -, H16⟩, ⟨%d17, %f17, -, H17⟩, Hk⟩
  obtain rfl := harg2.eq_unread hf2; obtain rfl := harg4.eq_unread hf4; obtain rfl := harg5.eq_unread hf5; obtain rfl := harg6.eq_unread hf6
  sl_exec (disch := first | sl_exact hc0 | sl_exact hc1)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; refine (left_whole hz _ _ _ _).trans ?_
    sl_unfold_words
    simp only [left_cov, View.readAt_eq_ld, harg2.read_unread, harg4.read_unread, harg5.read_unread, harg6.read_unread, ld_all]
    rfl
  isplitl [H8]
  · iexists _; isplitr
    swap; · iexact H8
    ipureintro; refine (left_whole hz _ _ _ _).trans ?_
    sl_unfold_words
    simp only [left_cov, View.readAt_eq_ld, harg2.read_unread, harg4.read_unread, harg5.read_unread, harg6.read_unread, ld_all]
    rfl
  isplitl [H9]
  · iexists _; isplitr
    swap; · iexact H9
    ipureintro; refine (left_whole hz _ _ _ _).trans ?_
    sl_unfold_words
    simp only [left_cov, View.readAt_eq_ld, harg2.read_unread, harg4.read_unread, harg5.read_unread, harg6.read_unread, ld_all]
    rfl
  isplitl [H10]
  · iexists _; isplitr
    swap; · iexact H10
    ipureintro; refine (left_whole hz _ _ _ _).trans ?_
    sl_unfold_words
    simp only [left_cov, View.readAt_eq_ld, harg2.read_unread, harg4.read_unread, harg5.read_unread, harg6.read_unread, ld_all]
    rfl
  isplitl [H11]
  · iexists _; isplitr
    swap; · iexact H11
    ipureintro; refine (left_whole hz _ _ _ _).trans ?_
    sl_unfold_words
    simp only [left_cov, View.readAt_eq_ld, harg2.read_unread, harg4.read_unread, harg5.read_unread, harg6.read_unread, ld_all]
    rfl
  isplitl [H12]
  · iexists _; isplitr
    swap; · iexact H12
    ipureintro; refine (left_whole hz _ _ _ _).trans ?_
    sl_unfold_words
    simp only [left_cov, View.readAt_eq_ld, harg2.read_unread, harg4.read_unread, harg5.read_unread, harg6.read_unread, ld_all]
    rfl
  isplitl [H13]
  · iexists _; isplitr
    swap; · iexact H13
    ipureintro; refine (left_whole hz _ _ _ _).trans ?_
    sl_unfold_words
    simp only [left_cov, View.readAt_eq_ld, harg2.read_unread, harg4.read_unread, harg5.read_unread, harg6.read_unread, ld_all]
    rfl
  isplitl [H14]
  · iexists _; isplitr
    swap; · iexact H14
    ipureintro; refine (left_whole hz _ _ _ _).trans ?_
    sl_unfold_words
    simp only [left_cov, View.readAt_eq_ld, harg2.read_unread, harg4.read_unread, harg5.read_unread, harg6.read_unread, ld_all]
    rfl
  isplitl [H16]
  · iexists _; isplitr
    swap; · iexact H16
    ipureintro; refine (left_whole hz _ _ _ _).trans ?_
    sl_unfold_words
    simp only [left_cov, View.readAt_eq_ld, harg2.read_unread, harg4.read_unread, harg5.read_unread, harg6.read_unread, ld_all]
    rfl
  iexists _; isplitr
  swap; · iexact H17
  ipureintro; refine (left_whole hz _ _ _ _).trans ?_
  sl_unfold_words
  simp only [left_cov, View.readAt_eq_ld, harg2.read_unread, harg4.read_unread, harg5.read_unread, harg6.read_unread, ld_all]
  rfl

end Cert.KernelIdeal.Step

end
-- ==== Proof.Step.RunLast.lean ====
/- The body at the last point: it also scales the product and writes the new history. -/
module

public import proofs.«01_k».proof.Proof.Step.RunFirst

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Whole

variable {F : FTy → Type} [FloatOps F]

local notation "𝕄" => MT nD τ sig Unit (Elt F) ℕ (UR sig nD τ) ℕ

variable (c : Dev nD) (i : grid0.Coords)
  (arg1 : Memref sig .tc .smem S1 .i32) (harg1 : arg1.IsWhole)
  (arg2 : Memref sig .tc .vmem S3x16 .f32) (harg2 : arg2.IsWhole)
  (arg3 : Memref sig .tc .vmem S1x1 .f32) (harg3 : arg3.IsWhole)
  (arg4 : Memref sig .tc .vmem S256x2048 .bf16) (harg4 : arg4.IsWhole)
  (arg5 : Memref sig .tc .vmem S256x4096 .bf16) (harg5 : arg5.IsWhole)
  (arg6 : Memref sig .tc .vmem S2048x4096 .fp8e4m3) (harg6 : arg6.IsWhole)
  (arg7 : Memref sig .tc .vmem S256x4096 .bf16) (harg7 : arg7.IsWhole)
  (arg8 : Memref sig .tc .vmem S256x2048 .bf16) (harg8 : arg8.IsWhole)
  (arg9 : Memref sig .tc .vmem S2048x4096 .f32) (harg9 : arg9.IsWhole)
  (arg10 : Memref sig .tc .vmem S256x2048 .fp8e4m3) (harg10 : arg10.IsWhole)
  (arg11 : Memref sig .tc .vmem S256x4096 .fp8e5m2) (harg11 : arg11.IsWhole)
  (arg12 : Memref sig .tc .vmem S1x1 .f32) (harg12 : arg12.IsWhole)
  (arg13 : Memref sig .tc .vmem S1x1 .f32) (harg13 : arg13.IsWhole)
  (arg14 : Memref sig .tc .vmem S1x1 .f32) (harg14 : arg14.IsWhole)
  (arg15 : Memref sig .tc .vmem S3x16 .f32) (harg15 : arg15.IsWhole)
  (arg16 : Memref sig .tc .vmem S16x2048 .bf16) (harg16 : arg16.IsWhole)
  (arg17 : Memref sig .tc .vmem S16x4096 .bf16) (harg17 : arg17.IsWhole)

set_option maxHeartbeats 2000000 in
/-- The body at the last point: it also scales the product and writes the new history. -/
theorem run_last (hc0 : ¬k0_cond1 i = 1#1) (hc1 : k0_cond2 i = 1#1)
    (s : Vec F S1 .i32) (wa : Vec F S1x1 .f32)
    (h : Vec F S3x16 .f32) (x : Vec F S256x2048 .bf16) (dy : Vec F S256x4096 .bf16) (w : Vec F S2048x4096 .fp8e4m3)
    (acc : Vec F S2048x4096 .f32) (xr : Vec F S16x2048 .bf16) (dyr : Vec F S16x4096 .bf16)
    (E : Set ℕ) (K : PUnit → sProp 𝕄) :
    iprop(owns (c : Thread nD τ) arg1 fullShare s
        ∗ owns (c : Thread nD τ) arg2 fullShare h
        ∗ owns (c : Thread nD τ) arg3 fullShare wa
        ∗ owns (c : Thread nD τ) arg4 fullShare x
        ∗ owns (c : Thread nD τ) arg5 fullShare dy
        ∗ owns (c : Thread nD τ) arg6 fullShare w
        ∗ (∃ d, owns (c : Thread nD τ) arg7 fullShare d)
        ∗ (∃ d, owns (c : Thread nD τ) arg8 fullShare d)
        ∗ owns (c : Thread nD τ) arg9 fullShare acc
        ∗ (∃ d, owns (c : Thread nD τ) arg10 fullShare d)
        ∗ (∃ d, owns (c : Thread nD τ) arg11 fullShare d)
        ∗ (∃ d, owns (c : Thread nD τ) arg15 fullShare d)
        ∗ owns (c : Thread nD τ) arg16 fullShare xr
        ∗ owns (c : Thread nD τ) arg17 fullShare dyr
        ∗ (iprop(owns (c : Thread nD τ) arg1 fullShare s
            ∗ owns (c : Thread nD τ) arg2 fullShare h
            ∗ owns (c : Thread nD τ) arg3 fullShare wa
            ∗ owns (c : Thread nD τ) arg4 fullShare x
            ∗ owns (c : Thread nD τ) arg5 fullShare dy
            ∗ owns (c : Thread nD τ) arg6 fullShare w
            ∗ owns (c : Thread nD τ) arg7 fullShare (yBlock h x w)
            ∗ owns (c : Thread nD τ) arg8 fullShare (dxBlock h dy w)
            ∗ owns (c : Thread nD τ) arg9 fullShare (dwScaled h (dwStep h x dy acc))
            ∗ owns (c : Thread nD τ) arg10 fullShare (xCodes h x)
            ∗ owns (c : Thread nD τ) arg11 fullShare (dyCodes h dy)
            ∗ owns (c : Thread nD τ) arg15 fullShare (newHist h (stepWord s) wa (xMax x xr) (dyMax dy dyr))
            ∗ owns (c : Thread nD τ) arg16 fullShare (xMax x xr)
            ∗ owns (c : Thread nD τ) arg17 fullShare (dyMax dy dyr))
            -∗ K ⟨⟩))
      ⊢ wp frame (wpE (defs₀ (F := F)) Variants.none c none) E
          (cc0_linear_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_linear_step_eq_skeleton]; unfold cc0_linear_step_skel
  simp only [k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton,
    k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%d11, %f11, -, H11⟩, ⟨%d15, %f15, -, H15⟩, ⟨%f16, %hf16, H16⟩, ⟨%f17, %hf17, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg16.eq_unread hf16; obtain rfl := harg17.eq_unread hf17
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; refine (left_whole hz _ _ _ _).trans ?_
    sl_unfold_words
    simp only [left_cov, View.readAt_eq_ld, harg1.read_unread, harg2.read_unread, harg3.read_unread, harg4.read_unread, harg5.read_unread, harg6.read_unread, harg9.read_unread, harg16.read_unread, harg17.read_unread, ld_all]
    rfl
  isplitl [H8]
  · iexists _; isplitr
    swap; · iexact H8
    ipureintro; refine (left_whole hz _ _ _ _).trans ?_
    sl_unfold_words
    simp only [left_cov, View.readAt_eq_ld, harg1.read_unread, harg2.read_unread, harg3.read_unread, harg4.read_unread, harg5.read_unread, harg6.read_unread, harg9.read_unread, harg16.read_unread, harg17.read_unread, ld_all]
    rfl
  isplitl [H9]
  · iexists _; isplitr
    swap; · iexact H9
    ipureintro; refine (left_whole hz _ _ _ _).trans ?_
    sl_unfold_words
    simp only [left_cov, View.readAt_eq_ld, harg1.read_unread, harg2.read_unread, harg3.read_unread, harg4.read_unread, harg5.read_unread, harg6.read_unread, harg9.read_unread, harg16.read_unread, harg17.read_unread, ld_all]
    rfl
  isplitl [H10]
  · iexists _; isplitr
    swap; · iexact H10
    ipureintro; refine (left_whole hz _ _ _ _).trans ?_
    sl_unfold_words
    simp only [left_cov, View.readAt_eq_ld, harg1.read_unread, harg2.read_unread, harg3.read_unread, harg4.read_unread, harg5.read_unread, harg6.read_unread, harg9.read_unread, harg16.read_unread, harg17.read_unread, ld_all]
    rfl
  isplitl [H11]
  · iexists _; isplitr
    swap; · iexact H11
    ipureintro; refine (left_whole hz _ _ _ _).trans ?_
    sl_unfold_words
    simp only [left_cov, View.readAt_eq_ld, harg1.read_unread, harg2.read_unread, harg3.read_unread, harg4.read_unread, harg5.read_unread, harg6.read_unread, harg9.read_unread, harg16.read_unread, harg17.read_unread, ld_all]
    rfl
  isplitl [H15]
  · iexists _; isplitr
    swap; · iexact H15
    ipureintro; refine (left_whole hz _ _ _ _).trans ?_
    sl_unfold_words
    simp only [left_cov, View.readAt_eq_ld, harg1.read_unread, harg2.read_unread, harg3.read_unread, harg4.read_unread, harg5.read_unread, harg6.read_unread, harg9.read_unread, harg16.read_unread, harg17.read_unread, ld_all]
    have e : ∀ hp, View.ld s (Rect.unit (s := S1) ![0] ![1] inb_S1_S1_0) (Shape.Idx.first hp) = stepWord s :=
      fun _ => congrFun (ld_all₁ s _) _
    unfold newHist slot
    rw [← e (by decide)]
    rfl
  isplitl [H16]
  · iexists _; isplitr
    swap; · iexact H16
    ipureintro; refine (left_whole hz _ _ _ _).trans ?_
    sl_unfold_words
    simp only [left_cov, View.readAt_eq_ld, harg1.read_unread, harg2.read_unread, harg3.read_unread, harg4.read_unread, harg5.read_unread, harg6.read_unread, harg9.read_unread, harg16.read_unread, harg17.read_unread, ld_all]
    rfl
  iexists _; isplitr
  swap; · iexact H17
  ipureintro; refine (left_whole hz _ _ _ _).trans ?_
  sl_unfold_words
  simp only [left_cov, View.readAt_eq_ld, harg1.read_unread, harg2.read_unread, harg3.read_unread, harg4.read_unread, harg5.read_unread, harg6.read_unread, harg9.read_unread, harg16.read_unread, harg17.read_unread, ld_all]
  rfl

end Cert.KernelIdeal.Step

end
-- ==== Proof.Step.Frame.lean ====
/- The run of `linear_step`: what every staging buffer holds after every point, the body's obligation at a point, and the
   run of the whole program. The product with the two quantised blocks and the two running maxima are carried from point
   to point (`dwAt`, `xMaxAt`, `dyMaxAt`); the three scales are stored at the first point and kept to the last. -/
module

public import proofs.«01_k».proof.Proof.Step.RunLast
public import Idealize.ShloMosaic.Lib.Claim

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Whole

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the body reads -/

/-- The history of the maxima, as launched. -/
def hist (c : Dev nD) : Vec F S3x16 .f32 := m ((c : Thread nD τ).loc main_arg3)
/-- The weights' largest magnitude, as launched. -/
def wAmax (c : Dev nD) : Vec F S1x1 .f32 := m ((c : Thread nD τ).loc main_arg4)
/-- The weights' codes, as launched. -/
def wCodes (c : Dev nD) : Vec F S2048x4096 .fp8e4m3 := m ((c : Thread nD τ).loc main_arg2)
/-- The step, as a table of one word. -/
def stepTab (c : Dev nD) : Vec F S1 .i32 := V m c main_v0
/-- The block of tokens at a point. -/
def xBlk (c : Dev nD) (n : ℕ) (h : n < cfg0.N) : Vec F S256x2048 .bf16 := iblk m c 3 ⟨n, h⟩
/-- The block of gradients at a point. -/
def dyBlk (c : Dev nD) (n : ℕ) (h : n < cfg0.N) : Vec F S256x4096 .bf16 := iblk m c 4 ⟨n, h⟩

theorem iblk_step (c : Dev nD) (t : Fin cfg0.N) : (iblk m c 0 t : Vec F S1 .i32) = stepTab m c := by
  have hz' : (fun a => win0_0.index t a * main_v0.ty.shape.size a) = fun _ => 0 := funext fun a => by fin_cases a; rfl
  exact Memref.read_access_unit_zero (Elt F) main_v0 hz' (fun a => by rw [congrFun hz' a]; simp) (V m c main_v0)
theorem iblk_hist (c : Dev nD) (t : Fin cfg0.N) : (iblk m c 1 t : Vec F S3x16 .f32) = hist m c := by
  have hz' : (fun a => win0_1.index t a * main_arg3.ty.shape.size a) = fun _ => 0 := funext fun a => by fin_cases a <;> rfl
  exact (Memref.read_access_unit_zero (Elt F) main_arg3 hz' (fun a => by rw [congrFun hz' a]; simp) (V m c main_arg3)).trans
    (V_main_arg3 m c)
theorem iblk_amax (c : Dev nD) (t : Fin cfg0.N) : (iblk m c 2 t : Vec F S1x1 .f32) = wAmax m c := by
  have hz' : (fun a => win0_2.index t a * main_arg4.ty.shape.size a) = fun _ => 0 := funext fun a => by fin_cases a <;> rfl
  exact (Memref.read_access_unit_zero (Elt F) main_arg4 hz' (fun a => by rw [congrFun hz' a]; simp) (V m c main_arg4)).trans
    (V_main_arg4 m c)
theorem iblk_codes (c : Dev nD) (t : Fin cfg0.N) : (iblk m c 5 t : Vec F S2048x4096 .fp8e4m3) = wCodes m c := by
  have hz' : (fun a => win0_5.index t a * main_arg2.ty.shape.size a) = fun _ => 0 := funext fun a => by fin_cases a <;> rfl
  exact (Memref.read_access_unit_zero (Elt F) main_arg2 hz' (fun a => by rw [congrFun hz' a]; simp) (V m c main_arg2)).trans
    (V_main_arg2 m c)

/-! ## What is carried -/

/-- The product of the tokens' and the gradients' codes, summed over the points up to `n`. -/
def dwAt (c : Dev nD) : (n : ℕ) → n < cfg0.N → Vec F S2048x4096 .f32
  | 0, h => dwStep (hist m c) (xBlk m c 0 h) (dyBlk m c 0 h) k0_pay75
  | n + 1, h => dwStep (hist m c) (xBlk m c (n + 1) h) (dyBlk m c (n + 1) h) (dwAt c n (Nat.lt_of_succ_lt h))
/-- The tokens' running maxima after point `n`. -/
def xMaxAt (c : Dev nD) : (n : ℕ) → n < cfg0.N → Vec F S16x2048 .bf16
  | 0, h => xMax (xBlk m c 0 h) k0_pay76
  | n + 1, h => xMax (xBlk m c (n + 1) h) (xMaxAt c n (Nat.lt_of_succ_lt h))
/-- The gradients' running maxima after point `n`. -/
def dyMaxAt (c : Dev nD) : (n : ℕ) → n < cfg0.N → Vec F S16x4096 .bf16
  | 0, h => dyMax (dyBlk m c 0 h) k0_pay77
  | n + 1, h => dyMax (dyBlk m c (n + 1) h) (dyMaxAt c n (Nat.lt_of_succ_lt h))

/-- What the product's buffer holds after point `n`: at the last point the sum times the two scales. -/
def dwOut (c : Dev nD) (n : ℕ) (h : n < cfg0.N) : Vec F S2048x4096 .f32 :=
  if n = 95 then dwScaled (hist m c) (dwAt m c n h) else dwAt m c n h
/-- What the history's buffer holds after the last point. -/
def histOut (c : Dev nD) (n : ℕ) (h : n < cfg0.N) : Vec F S3x16 .f32 :=
  newHist (hist m c) (stepWord (stepTab m c)) (wAmax m c) (xMaxAt m c n h) (dyMaxAt m c n h)

theorem dwAt_pos (c : Dev nD) (n : ℕ) (h : n < cfg0.N) (hn : n ≠ 0) : dwAt m c n h
    = dwStep (hist m c) (xBlk m c n h) (dyBlk m c n h) (dwAt m c (n - 1) (by omega)) := by
  cases n with
  | zero => exact absurd rfl hn
  | succ n => rfl
theorem xMaxAt_pos (c : Dev nD) (n : ℕ) (h : n < cfg0.N) (hn : n ≠ 0) : xMaxAt m c n h
    = xMax (xBlk m c n h) (xMaxAt m c (n - 1) (by omega)) := by
  cases n with
  | zero => exact absurd rfl hn
  | succ n => rfl
theorem dyMaxAt_pos (c : Dev nD) (n : ℕ) (h : n < cfg0.N) (hn : n ≠ 0) : dyMaxAt m c n h
    = dyMax (dyBlk m c n h) (dyMaxAt m c (n - 1) (by omega)) := by
  cases n with
  | zero => exact absurd rfl hn
  | succ n => rfl

/-! ## The invariant between points -/

/-- Before the first point the scratch buffers hold anything; after it, the running maxima. -/
def PhiS (c : Dev nD) : (n : ℕ) → n ≤ cfg0.N → sProp 𝕄
  | 0, _ => Pipeline.ΦA spec0 c
  | n + 1, hn => iprop(iprop(owns (c : Thread nD τ) scM0_0 fullShare (xMaxAt m c n hn)
      ∗ owns (c : Thread nD τ) scM0_1 fullShare (dyMaxAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n + 1 ≤ cfg0.N) :
    PhiS m c (n + 1) hn = iprop(iprop(owns (c : Thread nD τ) scM0_0 fullShare (xMaxAt m c n hn)
      ∗ owns (c : Thread nD τ) scM0_1 fullShare (dyMaxAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (xMaxAt m c (n - 1) (by omega))
      ∗ owns (c : Thread nD τ) scM0_1 fullShare (dyMaxAt m c (n - 1) (by omega))) ∗ (∃ r, prngReg c r)) := by
  cases n with
  | zero => exact absurd rfl hz
  | succ n => rfl

/-! ## The pipeline's proof data -/

/-- The arrays as the region finds them; after the body at a point every input's buffer at its block and every output's at
    the value stated above; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yBlock (hist m c) (xBlk m c t.val t.isLt) (wCodes m c)
    | ⟨7, _⟩ => dxBlock (hist m c) (dyBlk m c t.val t.isLt) (wCodes m c)
    | ⟨8, _⟩ => dwOut m c t.val t.isLt
    | ⟨9, _⟩ => xCodes (hist m c) (xBlk m c t.val t.isLt)
    | ⟨10, _⟩ => dyCodes (hist m c) (dyBlk m c t.val t.isLt)
    | ⟨11, _⟩ => xScale (row0 (hist m c))
    | ⟨12, _⟩ => wScale (row1 (hist m c))
    | ⟨13, _⟩ => dyScale (row2 (hist m c))
    | ⟨14, _⟩ => histOut m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = yBlock (hist m c) (xBlk m c t.val t.isLt) (wCodes m c) := by dsimp only [dats]
theorem after0_7 (c : Dev nD) (t : Fin cfg0.N) :
    (dats m 0 c).after 7 t = dxBlock (hist m c) (dyBlk m c t.val t.isLt) (wCodes m c) := by dsimp only [dats]
theorem after0_8 (c : Dev nD) (t : Fin cfg0.N) : (dats m 0 c).after 8 t = dwOut m c t.val t.isLt := by dsimp only [dats]
theorem after0_9 (c : Dev nD) (t : Fin cfg0.N) :
    (dats m 0 c).after 9 t = xCodes (hist m c) (xBlk m c t.val t.isLt) := by dsimp only [dats]
theorem after0_10 (c : Dev nD) (t : Fin cfg0.N) :
    (dats m 0 c).after 10 t = dyCodes (hist m c) (dyBlk m c t.val t.isLt) := by dsimp only [dats]
theorem after0_11 (c : Dev nD) (t : Fin cfg0.N) : (dats m 0 c).after 11 t = xScale (row0 (hist m c)) := by dsimp only [dats]
theorem after0_12 (c : Dev nD) (t : Fin cfg0.N) : (dats m 0 c).after 12 t = wScale (row1 (hist m c)) := by dsimp only [dats]
theorem after0_13 (c : Dev nD) (t : Fin cfg0.N) : (dats m 0 c).after 13 t = dyScale (row2 (hist m c)) := by dsimp only [dats]
theorem after0_14 (c : Dev nD) (t : Fin cfg0.N) : (dats m 0 c).after 14 t = histOut m c t.val t.isLt := by dsimp only [dats]

/-! What the body finds: an input's block, and in a carried output what the point before left. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_8 (c : Dev nD) (t : Fin cfg0.N) (h0 : t.val ≠ 0) (d) :
    (dats m 0 c).before 8 t d = dwAt m c (t.val - 1) (Nat.lt_of_le_of_lt (Nat.sub_le _ _) t.isLt) := by
  have hN : t.val < 96 := lt_of_lt_of_eq t.isLt N_0
  rw [Dat.before_out_kept _ 8 rfl t h0 (noFlush _ (by dsimp only; omega)).1 (fun _ => rfl) (fun _ _ => rfl), after0_8]
  unfold dwOut
  rw [if_neg (by dsimp only; omega)]

/-- A scale's buffer, once stored, is kept: it is fresh before the first point only. -/
theorem fresh_scales (w : Fin cfg0.W) (hi : ∀ t : Fin cfg0.N, cfg0.idle w (grid0.coords t) = !(t.val == 0))
    (hf : ∀ t : Fin cfg0.N, t.val ≠ 95 → (cfg0.win w).flush t = false) (n : ℕ) (hn : n < cfg0.N) (h0 : n ≠ 0) :
    cfg0.fresh w n = false := by
  induction n with
  | zero => exact absurd rfl h0
  | succ n ih =>
    have hN : n + 1 < 96 := lt_of_lt_of_eq hn N_0
    have hn' : n < cfg0.N := Nat.lt_of_succ_lt hn
    rw [Cfg.fresh_succ cfg0 w n hn', hf ⟨n, hn'⟩ (by dsimp only; omega), Bool.false_or]
    have hi' := hi ⟨n, hn'⟩
    by_cases hz : n = 0
    · subst hz; rw [show cfg0.idle w (cfg0.grid.coords ⟨0, hn'⟩) = false from hi'.trans rfl, Bool.false_and]
    · rw [ih hn' hz, Bool.and_false]

theorem idle_eq (w : Fin cfg0.W) (hl : ∀ t : Fin cfg0.N, t.val = 0 → cfg0.idle w (grid0.coords t) = false)
    (hi : ∀ t : Fin cfg0.N, t.val ≠ 0 → cfg0.idle w (grid0.coords t) = true) (t : Fin cfg0.N) :
    cfg0.idle w (grid0.coords t) = !(t.val == 0) := by
  by_cases h : t.val = 0
  · rw [hl t h, h]; rfl
  · rw [hi t h, beq_eq_false_iff_ne.mpr h]; rfl

theorem before0_11 (c : Dev nD) (t : Fin cfg0.N) (h0 : t.val ≠ 0) (d) :
    (dats m 0 c).before 11 t d = xScale (row0 (hist m c)) := by
  rw [Dat.before_out_traj (dats m 0 c) 11 rfl (fun _ _ => rfl) (fun t _ _ _ => by rw [after0_11, after0_11]) t.val t rfl d,
    fresh_scales 11 (idle_eq 11 (fun t h => (live_scales t h).1) fun t h => (idle_scales t h).1)
      (fun t h => (noFlush t h).2.1) t.val t.isLt h0, if_neg Bool.false_ne_true, after0_11]
theorem before0_12 (c : Dev nD) (t : Fin cfg0.N) (h0 : t.val ≠ 0) (d) :
    (dats m 0 c).before 12 t d = wScale (row1 (hist m c)) := by
  rw [Dat.before_out_traj (dats m 0 c) 12 rfl (fun _ _ => rfl) (fun t _ _ _ => by rw [after0_12, after0_12]) t.val t rfl d,
    fresh_scales 12 (idle_eq 12 (fun t h => (live_scales t h).2.1) fun t h => (idle_scales t h).2.1)
      (fun t h => (noFlush t h).2.2.1) t.val t.isLt h0, if_neg Bool.false_ne_true, after0_12]
theorem before0_13 (c : Dev nD) (t : Fin cfg0.N) (h0 : t.val ≠ 0) (d) :
    (dats m 0 c).before 13 t d = dyScale (row2 (hist m c)) := by
  rw [Dat.before_out_traj (dats m 0 c) 13 rfl (fun _ _ => rfl) (fun t _ _ _ => by rw [after0_13, after0_13]) t.val t rfl d,
    fresh_scales 13 (idle_eq 13 (fun t h => (live_scales t h).2.2) fun t h => (idle_scales t h).2.2)
      (fun t h => (noFlush t h).2.2.2.1) t.val t.isLt h0, if_neg Bool.false_ne_true, after0_13]

/-! ## The body obligation, at a generic point -/

/-- The staging buffer a window uses at a point. -/
abbrev stg (w : Fin cfg0.W) (t : Fin cfg0.N) := (cfg0.win w).stage (cfg0.slots t w)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg 0 t) fullShare ((dats m 0 c).before 0 t d))
    ∗ (∃ d, owns (c : Thread nD τ) (stg 1 t) fullShare ((dats m 0 c).before 1 t d))
    ∗ (∃ d, owns (c : Thread nD τ) (stg 2 t) fullShare ((dats m 0 c).before 2 t d))
    ∗ (∃ d, owns (c : Thread nD τ) (stg 3 t) fullShare ((dats m 0 c).before 3 t d))
    ∗ (∃ d, owns (c : Thread nD τ) (stg 4 t) fullShare ((dats m 0 c).before 4 t d))
    ∗ (∃ d, owns (c : Thread nD τ) (stg 5 t) fullShare ((dats m 0 c).before 5 t d))
    ∗ (∃ d, owns (c : Thread nD τ) (stg 6 t) fullShare ((dats m 0 c).before 6 t d))
    ∗ (∃ d, owns (c : Thread nD τ) (stg 7 t) fullShare ((dats m 0 c).before 7 t d))
    ∗ (∃ d, owns (c : Thread nD τ) (stg 8 t) fullShare ((dats m 0 c).before 8 t d))
    ∗ (∃ d, owns (c : Thread nD τ) (stg 9 t) fullShare ((dats m 0 c).before 9 t d))
    ∗ (∃ d, owns (c : Thread nD τ) (stg 10 t) fullShare ((dats m 0 c).before 10 t d))
    ∗ (∃ d, owns (c : Thread nD τ) (stg 11 t) fullShare ((dats m 0 c).before 11 t d))
    ∗ (∃ d, owns (c : Thread nD τ) (stg 12 t) fullShare ((dats m 0 c).before 12 t d))
    ∗ (∃ d, owns (c : Thread nD τ) (stg 13 t) fullShare ((dats m 0 c).before 13 t d))
    ∗ (∃ d, owns (c : Thread nD τ) (stg 14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t ∗ (dats m 0 c).leavesExact 10 t ∗ (dats m 0 c).leavesExact 11 t
    ∗ (dats m 0 c).leavesExact 12 t ∗ (dats m 0 c).leavesExact 13 t ∗ (dats m 0 c).leavesExact 14 t)

/-- A window the body stores into leaves what the proof data says. -/
theorem leaves_live (c : Dev nD) (w : Fin cfg0.W) (t : Fin cfg0.N) (hl : cfg0.idle w (grid0.coords t) = false) :
    (dats m 0 c).leavesExact w t = owns (c : Thread nD τ) (stg w t) fullShare ((dats m 0 c).after w t) := by
  unfold Dat.leavesExact; rw [hl]
/-- So does one it does not store into at a point that writes the block back. -/
theorem leaves_flush (c : Dev nD) (w : Fin cfg0.W) (t : Fin cfg0.N) (hi : cfg0.idle w (grid0.coords t) = true)
    (hf : (cfg0.win w).flush t = true) :
    (dats m 0 c).leavesExact w t = owns (c : Thread nD τ) (stg w t) fullShare ((dats m 0 c).after w t) := by
  unfold Dat.leavesExact; rw [hi, hf]

/-- The windows the body touches at every point, or which are inputs. -/
theorem leaves_always (c : Dev nD) (t : Fin cfg0.N) :
    (dats m 0 c).leavesExact 0 t = owns (c : Thread nD τ) (stg 0 t) fullShare (stepTab m c)
    ∧ (dats m 0 c).leavesExact 1 t = owns (c : Thread nD τ) (stg 1 t) fullShare (hist m c)
    ∧ (dats m 0 c).leavesExact 2 t = owns (c : Thread nD τ) (stg 2 t) fullShare (wAmax m c)
    ∧ (dats m 0 c).leavesExact 3 t = owns (c : Thread nD τ) (stg 3 t) fullShare (xBlk m c t.val t.isLt)
    ∧ (dats m 0 c).leavesExact 4 t = owns (c : Thread nD τ) (stg 4 t) fullShare (dyBlk m c t.val t.isLt)
    ∧ (dats m 0 c).leavesExact 5 t = owns (c : Thread nD τ) (stg 5 t) fullShare (wCodes m c)
    ∧ (dats m 0 c).leavesExact 6 t
        = owns (c : Thread nD τ) (stg 6 t) fullShare (yBlock (hist m c) (xBlk m c t.val t.isLt) (wCodes m c))
    ∧ (dats m 0 c).leavesExact 7 t
        = owns (c : Thread nD τ) (stg 7 t) fullShare (dxBlock (hist m c) (dyBlk m c t.val t.isLt) (wCodes m c))
    ∧ (dats m 0 c).leavesExact 8 t = owns (c : Thread nD τ) (stg 8 t) fullShare (dwOut m c t.val t.isLt)
    ∧ (dats m 0 c).leavesExact 9 t
        = owns (c : Thread nD τ) (stg 9 t) fullShare (xCodes (hist m c) (xBlk m c t.val t.isLt))
    ∧ (dats m 0 c).leavesExact 10 t
        = owns (c : Thread nD τ) (stg 10 t) fullShare (dyCodes (hist m c) (dyBlk m c t.val t.isLt)) :=
  ⟨(leaves_live m c 0 t rfl).trans (by rw [after0_0, iblk_step]),
    (leaves_live m c 1 t rfl).trans (by rw [after0_1, iblk_hist]),
    (leaves_live m c 2 t rfl).trans (by rw [after0_2, iblk_amax]),
    (leaves_live m c 3 t rfl).trans (by rw [after0_3]; rfl),
    (leaves_live m c 4 t rfl).trans (by rw [after0_4]; rfl),
    (leaves_live m c 5 t rfl).trans (by rw [after0_5, iblk_codes]),
    (leaves_live m c 6 t rfl).trans (by rw [after0_6]),
    (leaves_live m c 7 t rfl).trans (by rw [after0_7]),
    (leaves_live m c 8 t rfl).trans (by rw [after0_8]),
    (leaves_live m c 9 t rfl).trans (by rw [after0_9]),
    (leaves_live m c 10 t rfl).trans (by rw [after0_10])⟩

/-- The inputs as the body finds them. -/
theorem finds (c : Dev nD) (t : Fin cfg0.N) :
    (∀ d, (dats m 0 c).before 0 t d = stepTab m c) ∧ (∀ d, (dats m 0 c).before 1 t d = hist m c)
    ∧ (∀ d, (dats m 0 c).before 2 t d = wAmax m c) ∧ (∀ d, (dats m 0 c).before 3 t d = xBlk m c t.val t.isLt)
    ∧ (∀ d, (dats m 0 c).before 4 t d = dyBlk m c t.val t.isLt) ∧ (∀ d, (dats m 0 c).before 5 t d = wCodes m c) :=
  ⟨fun d => (before0_0 m c t d).trans (iblk_step m c t), fun d => (before0_1 m c t d).trans (iblk_hist m c t),
    fun d => (before0_2 m c t d).trans (iblk_amax m c t), fun d => before0_3 m c t d, fun d => before0_4 m c t d,
    fun d => (before0_5 m c t d).trans (iblk_codes m c t)⟩

set_option maxHeartbeats 4800000 in
/-- The body at any point, by the three runs. -/
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5⟩ := finds m c t
  obtain ⟨l0, l1, l2, l3, l4, l5, l6, l7, l8, l9, l10⟩ := leaves_always m c t
  unfold bodyPre bodyPost bodyAt0
  simp only [b0, b1, b2, b3, b4, b5]
  rw [l0, l1, l2, l3, l4, l5, l6, l7, l8, l9, l10]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt N_0
  by_cases h0 : t.val = 0
  · have h1 : t.val ≠ 95 := by omega
    rw [leaves_live m c 11 t (live_scales t h0).1, leaves_live m c 12 t (live_scales t h0).2.1,
      leaves_live m c 13 t (live_scales t h0).2.2, after0_11, after0_12, after0_13,
      Dat.leavesExact_idle (dats m 0 c) 14 t (idle_hist t h1) (noFlush t h1).2.2.2.2,
      PhiS_castSucc m c t, PhiS_zero m c _ _ h0, PhiA0_eq]
    obtain ⟨n, hn⟩ := t
    obtain rfl : n = 0 := h0
    rw [show dwOut m c (⟨0, hn⟩ : Fin cfg0.N).val hn = dwStep (hist m c) (xBlk m c 0 hn) (dyBlk m c 0 hn) k0_pay75 from rfl,
      show xMaxAt m c (⟨0, hn⟩ : Fin cfg0.N).val hn = xMax (xBlk m c 0 hn) k0_pay76 from rfl,
      show dyMaxAt m c (⟨0, hn⟩ : Fin cfg0.N).val hn = dyMax (dyBlk m c 0 hn) k0_pay77 from rfl]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords ⟨0, hn⟩) _ _ _ _ _ _ _ _ _ _ _ _ _ _ _ _ _ _ _ _ _ _ _ _ _ _ _ _ _ _ _ _ _ _ ((first_iff _).mpr rfl)
      (fun h => h1 ((last_iff _).mp h)) (hist m c) (xBlk m c 0 hn) (dyBlk m c 0 hn) (wCodes m c) Set.univ _)
    isplitl [H1]; · iexact H1
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    iintro ⟨H1, H3, H4, H5, H6, H7, H8, H9, H10, H11, H12, H13, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14
  · rw [PhiS_castSucc m c t, PhiS_pos m c _ _ h0, xMaxAt_pos m c _ t.isLt h0, dyMaxAt_pos m c _ t.isLt h0]
    by_cases h1 : t.val = 95
    · rw [leaves_flush m c 11 t (idle_scales t h0).1 (flush_scales t h1).1,
        leaves_flush m c 12 t (idle_scales t h0).2.1 (flush_scales t h1).2.1,
        leaves_flush m c 13 t (idle_scales t h0).2.2 (flush_scales t h1).2.2, after0_11, after0_12, after0_13,
        leaves_live m c 14 t (live_hist t h1), after0_14]
      simp only [before0_8 m c t h0, before0_11 m c t h0, before0_12 m c t h0, before0_13 m c t h0]
      rw [show dwOut m c t.val t.isLt = dwScaled (hist m c) (dwAt m c t.val t.isLt) from if_pos h1, dwAt_pos m c _ t.isLt h0,
        show histOut m c t.val t.isLt = newHist (hist m c) (stepWord (stepTab m c)) (wAmax m c) (xMaxAt m c t.val t.isLt)
          (dyMaxAt m c t.val t.isLt) from rfl, xMaxAt_pos m c _ t.isLt h0, dyMaxAt_pos m c _ t.isLt h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (run_last c (grid0.coords t) _ _ _ _ _ _ _ _ _ _ _ _ _ _ _ _ _ _ _ _ _ _ _ _ _ _ _ _ _ _ _ _ _ _ (fun h => h0 ((first_iff t).mp h))
        ((last_iff t).mpr h1) (stepTab m c) (wAmax m c) (hist m c) (xBlk m c t.val t.isLt) (dyBlk m c t.val t.isLt) (wCodes m c) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [H9]; · iexists _; iexact H9
      isplitl [H10]; · iexists _; iexact H10
      isplitl [H14]; · iexists _; iexact H14
      isplitl [HS0]; · iexact HS0
      isplitl [HS1]; · iexact HS1
      iintro ⟨H0, H1, H2, H3, H4, H5, H6, H7, H8, H9, H10, H14, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · rw [Dat.leavesExact_idle (dats m 0 c) 11 t (idle_scales t h0).1 (noFlush t h1).2.1,
        Dat.leavesExact_idle (dats m 0 c) 12 t (idle_scales t h0).2.1 (noFlush t h1).2.2.1,
        Dat.leavesExact_idle (dats m 0 c) 13 t (idle_scales t h0).2.2 (noFlush t h1).2.2.2.1,
        Dat.leavesExact_idle (dats m 0 c) 14 t (idle_hist t h1) (noFlush t h1).2.2.2.2]
      simp only [before0_8 m c t h0]
      rw [show dwOut m c t.val t.isLt = dwAt m c t.val t.isLt from if_neg h1, dwAt_pos m c _ t.isLt h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (run_middle c (grid0.coords t) _ _ _ _ _ _ _ _ _ _ _ _ _ _ _ _ _ _ _ _ _ _ _ _ _ _ _ _ _ _ _ _ _ _ (fun h => h0 ((first_iff t).mp h))
        (fun h => h1 ((last_iff t).mp h)) (hist m c) (xBlk m c t.val t.isLt) (dyBlk m c t.val t.isLt) (wCodes m c) _ _ _ Set.univ _)
      isplitl [H1]; · iexact H1
      isplitl [H3]; · iexact H3
      isplitl [H4]; · iexact H4
      isplitl [H5]; · iexact H5
      isplitl [H6]; · iexists _; iexact H6
      isplitl [H7]; · iexists _; iexact H7
      isplitl [H8]; · iexact H8
      isplitl [H9]; · iexists _; iexact H9
      isplitl [H10]; · iexists _; iexact H10
      isplitl [HS0]; · iexact HS0
      isplitl [HS1]; · iexact HS1
      iintro ⟨H1, H3, H4, H5, H6, H7, H8, H9, H10, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      iexists _; iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

set_option backward.isDefEq.respectTransparency.types false in
/-- The launch: every array at what the proof data computes, and every semaphore counter at zero, at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Step

end
-- ==== Proof.Step.Printed.lean ====
/-
  The frame of `linear_step` as printed. Its idealization rewrites nothing, so the two are the same program, and the frame
  already proved of the idealization (for every reading of the floats) is the frame of the program itself.
-/
module

public import proofs.«01_k».proof.Defs
public import proofs.«01_k».proof.Proof.Gen.Kernel
public import proofs.«01_k».proof.Proof.Step.Frame

@[expose] public section

set_option maxRecDepth 16384

namespace Cert.Kernel.Printed

open Idealize.ShloMosaic Idealize.SL.Sem

variable {F : FTy → Type} [FloatOps F]

local instance : Cert.Kernel.Facts := Cert.Kernel.Gen.facts
local instance : Cert.KernelIdeal.Facts := Cert.KernelIdeal.Gen.facts

/-- The kernel's function is the same. -/
theorem body : @Cert.Kernel.cc0_linear_step F _ _ = @Cert.KernelIdeal.cc0_linear_step F _ _ := rfl

/-- So is the table that calls it. -/
theorem bodies : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l, a with
  | 0, (t, s) => rfl

/-- And the table of the whole program. -/
theorem table : Cert.Kernel.defs (F := F) = Cert.KernelIdeal.defs (F := F) :=
  congrArg (Pipeline.defs (Cert.Kernel.pcfgs (F := F))) bodies

/-- The host function is the same. -/
theorem host : Cert.Kernel.main (F := F) = Cert.KernelIdeal.main (F := F) := rfl

/-- The frame. -/
theorem frame : @Cert.quiescent_Kernel Cert.Kernel.Gen.facts := fun m ρ _ =>
  (iff_of_eq (congrArg (fun D => θ_run D (onTc (τ := Cert.Kernel.τ) (Cert.Kernel.main (F := Bits))) ⟨m, fun _ => 0, ρ⟩ _) table)).2
    (Cert.KernelIdeal.Step.frame (F := Bits) m ρ)

end Cert.Kernel.Printed
-- ==== Proof.Step.Blocks.lean ====
/- The blocks of `linear_step` and its result arrays. A block of tokens or gradients is 256 rows of the whole matrix; the four
   results written block by block are, row for row, what the points left; the other five are what the last point left. -/
module

public import proofs.«01_k».proof.Proof.Step.Frame

@[expose] public section

set_option maxRecDepth 16384

noncomputable section

namespace Cert.KernelIdeal.Step

open Idealize.ShloMosaic Idealize.ShloMosaic.TcCoe
open Idealize.SL.Sem
open Cert.KernelIdeal.Gen

variable {F : FTy → Type} [FloatOps F]
variable (m : (ℓ : Loc nD τ sig) → Buf (Elt F) ℓ) (ρ : Dev nD → PrngReg) (c : Dev nD)

/-! ## The arguments, as the points read them -/

/-- The tokens: the first argument with its two leading axes merged. -/
def tokens : Vec F S24576x2048 .bf16 := shapeCast S24576x2048 (m ((c : Thread nD τ).loc main_arg0)) shapeCasts_S6x4096x2048_S24576x2048
/-- The gradients: the second argument with its two leading axes merged. -/
def grads : Vec F S24576x4096 .bf16 := shapeCast S24576x4096 (m ((c : Thread nD τ).loc main_arg1)) shapeCasts_S6x4096x4096_S24576x4096

theorem V_tokens : V m c main_v1 = tokens m c := by
  show StableHlo.after hostOps0 _ (Proc.devRef .tc main_v1) = _
  after_results
  rfl
theorem V_grads : V m c main_v2 = grads m c := by
  show StableHlo.after hostOps0 _ (Proc.devRef .tc main_v2) = _
  after_results
  rfl
/-- The step's table is the last argument, reshaped. -/
theorem stepTab_eq : stepTab m c = shapeCast S1 (m ((c : Thread nD τ).loc main_arg5)) shapeCasts_S_S1 := by
  show StableHlo.after hostOps0 _ (Proc.devRef .tc main_v0) = _
  after_results
  rfl

/-- Row `256 n + r`, column `j`. -/
def rowAt {w : ℕ} (n : ℕ) (hn : n < 96) (i : (⟨2, ![256, w]⟩ : Shape).Idx) : (⟨2, ![24576, w]⟩ : Shape).Idx := fun a => match a with
  | ⟨0, _⟩ => ⟨256 * n + (i 0).val, by have h : (i 0).val < 256 := (i 0).isLt; show _ < 24576; omega⟩
  | ⟨1, _⟩ => ⟨(i 1).val, (i 1).isLt⟩

/-- A row of the whole matrix, as a row of its block. -/
def locOf {w : ℕ} (i : (⟨2, ![24576, w]⟩ : Shape).Idx) : (⟨2, ![256, w]⟩ : Shape).Idx := fun a => match a with
  | ⟨0, _⟩ => ⟨(i 0).val % 256, Nat.mod_lt _ (by decide)⟩
  | ⟨1, _⟩ => ⟨(i 1).val, (i 1).isLt⟩

theorem block_lt {w : ℕ} (i : (⟨2, ![24576, w]⟩ : Shape).Idx) : (i 0).val / 256 < 96 := by
  have h : (i 0).val < 24576 := (i 0).isLt
  omega

theorem rowAt_locOf {w : ℕ} (i : (⟨2, ![24576, w]⟩ : Shape).Idx) : rowAt ((i 0).val / 256) (block_lt i) (locOf i) = i := by
  funext a; apply Fin.ext
  match a with
  | ⟨0, _⟩ => show 256 * ((i 0).val / 256) + (i 0).val % 256 = (i 0).val; omega
  | ⟨1, _⟩ => rfl

theorem lt96 (t : Fin cfg0.N) : t.val < 96 := lt_of_lt_of_eq t.isLt N_0

/-! ## Where the windows' blocks lie -/

theorem emb3 (t : Fin cfg0.N) (j : S256x2048.Idx) : ((cfg0.win 3).blk t).view.emb j = rowAt t.val (lt96 t) j := by
  obtain ⟨e0, e1⟩ := (by decide +kernel : ∀ t : Fin grid0.N, win0_3.index t (0 : Fin 2) = t.val ∧ win0_3.index t (1 : Fin 2) = 0) t
  funext a; apply Fin.ext
  match a with
  | ⟨0, _⟩ => show win0_3.index t (0 : Fin 2) * 256 + 1 * (j 0).val = 256 * t.val + (j 0).val; omega
  | ⟨1, _⟩ => show win0_3.index t (1 : Fin 2) * 2048 + 1 * (j 1).val = (j 1).val; omega
theorem emb4 (t : Fin cfg0.N) (j : S256x4096.Idx) : ((cfg0.win 4).blk t).view.emb j = rowAt t.val (lt96 t) j := by
  obtain ⟨e0, e1⟩ := (by decide +kernel : ∀ t : Fin grid0.N, win0_4.index t (0 : Fin 2) = t.val ∧ win0_4.index t (1 : Fin 2) = 0) t
  funext a; apply Fin.ext
  match a with
  | ⟨0, _⟩ => show win0_4.index t (0 : Fin 2) * 256 + 1 * (j 0).val = 256 * t.val + (j 0).val; omega
  | ⟨1, _⟩ => show win0_4.index t (1 : Fin 2) * 4096 + 1 * (j 1).val = (j 1).val; omega
theorem emb6 (t : Fin cfg0.N) (j : S256x4096.Idx) : ((cfg0.win 6).blk t).view.emb j = rowAt t.val (lt96 t) j := by
  obtain ⟨e0, e1⟩ := (by decide +kernel : ∀ t : Fin grid0.N, win0_6.index t (0 : Fin 2) = t.val ∧ win0_6.index t (1 : Fin 2) = 0) t
  funext a; apply Fin.ext
  match a with
  | ⟨0, _⟩ => show win0_6.index t (0 : Fin 2) * 256 + 1 * (j 0).val = 256 * t.val + (j 0).val; omega
  | ⟨1, _⟩ => show win0_6.index t (1 : Fin 2) * 4096 + 1 * (j 1).val = (j 1).val; omega
theorem emb7 (t : Fin cfg0.N) (j : S256x2048.Idx) : ((cfg0.win 7).blk t).view.emb j = rowAt t.val (lt96 t) j := by
  obtain ⟨e0, e1⟩ := (by decide +kernel : ∀ t : Fin grid0.N, win0_7.index t (0 : Fin 2) = t.val ∧ win0_7.index t (1 : Fin 2) = 0) t
  funext a; apply Fin.ext
  match a with
  | ⟨0, _⟩ => show win0_7.index t (0 : Fin 2) * 256 + 1 * (j 0).val = 256 * t.val + (j 0).val; omega
  | ⟨1, _⟩ => show win0_7.index t (1 : Fin 2) * 2048 + 1 * (j 1).val = (j 1).val; omega
theorem emb9 (t : Fin cfg0.N) (j : S256x2048.Idx) : ((cfg0.win 9).blk t).view.emb j = rowAt t.val (lt96 t) j := by
  obtain ⟨e0, e1⟩ := (by decide +kernel : ∀ t : Fin grid0.N, win0_9.index t (0 : Fin 2) = t.val ∧ win0_9.index t (1 : Fin 2) = 0) t
  funext a; apply Fin.ext
  match a with
  | ⟨0, _⟩ => show win0_9.index t (0 : Fin 2) * 256 + 1 * (j 0).val = 256 * t.val + (j 0).val; omega
  | ⟨1, _⟩ => show win0_9.index t (1 : Fin 2) * 2048 + 1 * (j 1).val = (j 1).val; omega
theorem emb10 (t : Fin cfg0.N) (j : S256x4096.Idx) : ((cfg0.win 10).blk t).view.emb j = rowAt t.val (lt96 t) j := by
  obtain ⟨e0, e1⟩ := (by decide +kernel : ∀ t : Fin grid0.N, win0_10.index t (0 : Fin 2) = t.val ∧ win0_10.index t (1 : Fin 2) = 0) t
  funext a; apply Fin.ext
  match a with
  | ⟨0, _⟩ => show win0_10.index t (0 : Fin 2) * 256 + 1 * (j 0).val = 256 * t.val + (j 0).val; omega
  | ⟨1, _⟩ => show win0_10.index t (1 : Fin 2) * 4096 + 1 * (j 1).val = (j 1).val; omega
theorem emb8 (t : Fin cfg0.N) (j : S2048x4096.Idx) : ((cfg0.win 8).blk t).view.emb j = j := by
  obtain ⟨e0, e1⟩ := (by decide +kernel : ∀ t : Fin grid0.N, win0_8.index t (0 : Fin 2) = 0 ∧ win0_8.index t (1 : Fin 2) = 0) t
  funext a; apply Fin.ext
  match a with
  | ⟨0, _⟩ => show win0_8.index t (0 : Fin 2) * 2048 + 1 * (j 0).val = (j 0).val; omega
  | ⟨1, _⟩ => show win0_8.index t (1 : Fin 2) * 4096 + 1 * (j 1).val = (j 1).val; omega
theorem emb11 (t : Fin cfg0.N) (j : S1x1.Idx) : ((cfg0.win 11).blk t).view.emb j = j := by
  obtain ⟨e0, e1⟩ := (by decide +kernel : ∀ t : Fin grid0.N, win0_11.index t (0 : Fin 2) = 0 ∧ win0_11.index t (1 : Fin 2) = 0) t
  funext a; apply Fin.ext
  match a with
  | ⟨0, _⟩ => show win0_11.index t (0 : Fin 2) * 1 + 1 * (j 0).val = (j 0).val; omega
  | ⟨1, _⟩ => show win0_11.index t (1 : Fin 2) * 1 + 1 * (j 1).val = (j 1).val; omega
theorem emb12 (t : Fin cfg0.N) (j : S1x1.Idx) : ((cfg0.win 12).blk t).view.emb j = j := by
  obtain ⟨e0, e1⟩ := (by decide +kernel : ∀ t : Fin grid0.N, win0_12.index t (0 : Fin 2) = 0 ∧ win0_12.index t (1 : Fin 2) = 0) t
  funext a; apply Fin.ext
  match a with
  | ⟨0, _⟩ => show win0_12.index t (0 : Fin 2) * 1 + 1 * (j 0).val = (j 0).val; omega
  | ⟨1, _⟩ => show win0_12.index t (1 : Fin 2) * 1 + 1 * (j 1).val = (j 1).val; omega
theorem emb13 (t : Fin cfg0.N) (j : S1x1.Idx) : ((cfg0.win 13).blk t).view.emb j = j := by
  obtain ⟨e0, e1⟩ := (by decide +kernel : ∀ t : Fin grid0.N, win0_13.index t (0 : Fin 2) = 0 ∧ win0_13.index t (1 : Fin 2) = 0) t
  funext a; apply Fin.ext
  match a with
  | ⟨0, _⟩ => show win0_13.index t (0 : Fin 2) * 1 + 1 * (j 0).val = (j 0).val; omega
  | ⟨1, _⟩ => show win0_13.index t (1 : Fin 2) * 1 + 1 * (j 1).val = (j 1).val; omega
theorem emb14 (t : Fin cfg0.N) (j : S3x16.Idx) : ((cfg0.win 14).blk t).view.emb j = j := by
  obtain ⟨e0, e1⟩ := (by decide +kernel : ∀ t : Fin grid0.N, win0_14.index t (0 : Fin 2) = 0 ∧ win0_14.index t (1 : Fin 2) = 0) t
  funext a; apply Fin.ext
  match a with
  | ⟨0, _⟩ => show win0_14.index t (0 : Fin 2) * 3 + 1 * (j 0).val = (j 0).val; omega
  | ⟨1, _⟩ => show win0_14.index t (1 : Fin 2) * 16 + 1 * (j 1).val = (j 1).val; omega

/-- A point's block of tokens. -/
theorem xBlk_apply (n : ℕ) (h : n < cfg0.N) (i : S256x2048.Idx) :
    xBlk m c n h i = tokens m c (rowAt n (lt_of_lt_of_eq h N_0) i) := by
  rw [← V_tokens]
  show V m c main_v1 (((cfg0.win 3).blk ⟨n, h⟩).view.emb i) = _
  rw [emb3]
/-- A point's block of gradients. -/
theorem dyBlk_apply (n : ℕ) (h : n < cfg0.N) (i : S256x4096.Idx) :
    dyBlk m c n h i = grads m c (rowAt n (lt_of_lt_of_eq h N_0) i) := by
  rw [← V_grads]
  show V m c main_v2 (((cfg0.win 4).blk ⟨n, h⟩).view.emb i) = _
  rw [emb4]

/-! ## The result arrays -/

theorem final_y (G : Vec F S24576x4096 .bf16)
    (hG : ∀ (t : Fin cfg0.N) (j : S256x4096.Idx), yBlock (hist m c) (xBlk m c t.val t.isLt) (wCodes m c) j = G (rowAt t.val (lt96 t) j)) :
    (dats m 0 c).arrAt 6 cfg0.N = G :=
  (dats m 0 c).arrAt_eq_of_cover 6 G (fun t _ => by
    show (cfg0.win 6).cut (grid0.coords t) ((dats m 0 c).after 6 t) = _
    rw [after0_6]
    funext j
    show (yBlock (hist m c) (xBlk m c t.val t.isLt) (wCodes m c)) j = G (((cfg0.win 6).blk t).view.emb j)
    rw [emb6, hG])
    (fun i : S24576x4096.Idx => ⟨(⟨(i 0).val / 256, lt_of_lt_of_eq (block_lt i) N_0.symm⟩ : Fin cfg0.N), flush0_6 _, by
      have h := ((cfg0.win 6).blk (⟨(i 0).val / 256, lt_of_lt_of_eq (block_lt i) N_0.symm⟩ : Fin cfg0.N)).view.emb_mem_set (locOf i)
      rwa [emb6, rowAt_locOf] at h⟩)
theorem final_dx (G : Vec F S24576x2048 .bf16)
    (hG : ∀ (t : Fin cfg0.N) (j : S256x2048.Idx), dxBlock (hist m c) (dyBlk m c t.val t.isLt) (wCodes m c) j = G (rowAt t.val (lt96 t) j)) :
    (dats m 0 c).arrAt 7 cfg0.N = G :=
  (dats m 0 c).arrAt_eq_of_cover 7 G (fun t _ => by
    show (cfg0.win 7).cut (grid0.coords t) ((dats m 0 c).after 7 t) = _
    rw [after0_7]
    funext j
    show (dxBlock (hist m c) (dyBlk m c t.val t.isLt) (wCodes m c)) j = G (((cfg0.win 7).blk t).view.emb j)
    rw [emb7, hG])
    (fun i : S24576x2048.Idx => ⟨(⟨(i 0).val / 256, lt_of_lt_of_eq (block_lt i) N_0.symm⟩ : Fin cfg0.N), flush0_7 _, by
      have h := ((cfg0.win 7).blk (⟨(i 0).val / 256, lt_of_lt_of_eq (block_lt i) N_0.symm⟩ : Fin cfg0.N)).view.emb_mem_set (locOf i)
      rwa [emb7, rowAt_locOf] at h⟩)
theorem final_xCodes (G : Vec F S24576x2048 .fp8e4m3)
    (hG : ∀ (t : Fin cfg0.N) (j : S256x2048.Idx), xCodes (hist m c) (xBlk m c t.val t.isLt) j = G (rowAt t.val (lt96 t) j)) :
    (dats m 0 c).arrAt 9 cfg0.N = G :=
  (dats m 0 c).arrAt_eq_of_cover 9 G (fun t _ => by
    show (cfg0.win 9).cut (grid0.coords t) ((dats m 0 c).after 9 t) = _
    rw [after0_9]
    funext j
    show (xCodes (hist m c) (xBlk m c t.val t.isLt)) j = G (((cfg0.win 9).blk t).view.emb j)
    rw [emb9, hG])
    (fun i : S24576x2048.Idx => ⟨(⟨(i 0).val / 256, lt_of_lt_of_eq (block_lt i) N_0.symm⟩ : Fin cfg0.N), flush0_9 _, by
      have h := ((cfg0.win 9).blk (⟨(i 0).val / 256, lt_of_lt_of_eq (block_lt i) N_0.symm⟩ : Fin cfg0.N)).view.emb_mem_set (locOf i)
      rwa [emb9, rowAt_locOf] at h⟩)
theorem final_dyCodes (G : Vec F S24576x4096 .fp8e5m2)
    (hG : ∀ (t : Fin cfg0.N) (j : S256x4096.Idx), dyCodes (hist m c) (dyBlk m c t.val t.isLt) j = G (rowAt t.val (lt96 t) j)) :
    (dats m 0 c).arrAt 10 cfg0.N = G :=
  (dats m 0 c).arrAt_eq_of_cover 10 G (fun t _ => by
    show (cfg0.win 10).cut (grid0.coords t) ((dats m 0 c).after 10 t) = _
    rw [after0_10]
    funext j
    show (dyCodes (hist m c) (dyBlk m c t.val t.isLt)) j = G (((cfg0.win 10).blk t).view.emb j)
    rw [emb10, hG])
    (fun i : S24576x4096.Idx => ⟨(⟨(i 0).val / 256, lt_of_lt_of_eq (block_lt i) N_0.symm⟩ : Fin cfg0.N), flush0_10 _, by
      have h := ((cfg0.win 10).blk (⟨(i 0).val / 256, lt_of_lt_of_eq (block_lt i) N_0.symm⟩ : Fin cfg0.N)).view.emb_mem_set (locOf i)
      rwa [emb10, rowAt_locOf] at h⟩)

/-- The last point. -/
theorem last_lt : 95 < cfg0.N := lt_of_lt_of_eq (by decide) N_0.symm

theorem final_dw : (dats m 0 c).arrAt 8 cfg0.N = dwScaled (hist m c) (dwAt m c 95 last_lt) :=
  (dats m 0 c).arrAt_eq_of_cover 8 (dwScaled (hist m c) (dwAt m c 95 last_lt)) (fun t hf => by
    show (cfg0.win 8).cut (grid0.coords t) ((dats m 0 c).after 8 t) = _
    rw [after0_8]
    have e : dwOut m c t.val t.isLt = dwScaled (hist m c) (dwAt m c 95 last_lt) := by
      have e95 : t.val = 95 := by have := (flush0_8 t).1 hf; have := lt96 t; omega
      obtain ⟨n, hn⟩ := t
      obtain rfl : n = 95 := e95
      unfold dwOut; rw [if_pos rfl]
    rw [e]
    funext j
    show (dwScaled (hist m c) (dwAt m c 95 last_lt)) j = (dwScaled (hist m c) (dwAt m c 95 last_lt)) (((cfg0.win 8).blk t).view.emb j)
    rw [emb8])
    (fun i : S2048x4096.Idx => ⟨(⟨95, last_lt⟩ : Fin cfg0.N), (flush0_8 _).2 (by show 95 % 96 = 95; decide), by
      have h := ((cfg0.win 8).blk (⟨95, last_lt⟩ : Fin cfg0.N)).view.emb_mem_set i; rwa [emb8] at h⟩)
theorem final_xScale : (dats m 0 c).arrAt 11 cfg0.N = xScale (row0 (hist m c)) :=
  (dats m 0 c).arrAt_eq_of_cover 11 (xScale (row0 (hist m c))) (fun t hf => by
    show (cfg0.win 11).cut (grid0.coords t) ((dats m 0 c).after 11 t) = _
    rw [after0_11]
    funext j
    show (xScale (row0 (hist m c))) j = (xScale (row0 (hist m c))) (((cfg0.win 11).blk t).view.emb j)
    rw [emb11])
    (fun i : S1x1.Idx => ⟨(⟨95, last_lt⟩ : Fin cfg0.N), (flush0_11 _).2 (by show 95 % 96 = 95; decide), by
      have h := ((cfg0.win 11).blk (⟨95, last_lt⟩ : Fin cfg0.N)).view.emb_mem_set i; rwa [emb11] at h⟩)
theorem final_wScale : (dats m 0 c).arrAt 12 cfg0.N = wScale (row1 (hist m c)) :=
  (dats m 0 c).arrAt_eq_of_cover 12 (wScale (row1 (hist m c))) (fun t hf => by
    show (cfg0.win 12).cut (grid0.coords t) ((dats m 0 c).after 12 t) = _
    rw [after0_12]
    funext j
    show (wScale (row1 (hist m c))) j = (wScale (row1 (hist m c))) (((cfg0.win 12).blk t).view.emb j)
    rw [emb12])
    (fun i : S1x1.Idx => ⟨(⟨95, last_lt⟩ : Fin cfg0.N), (flush0_12 _).2 (by show 95 % 96 = 95; decide), by
      have h := ((cfg0.win 12).blk (⟨95, last_lt⟩ : Fin cfg0.N)).view.emb_mem_set i; rwa [emb12] at h⟩)
theorem final_dyScale : (dats m 0 c).arrAt 13 cfg0.N = dyScale (row2 (hist m c)) :=
  (dats m 0 c).arrAt_eq_of_cover 13 (dyScale (row2 (hist m c))) (fun t hf => by
    show (cfg0.win 13).cut (grid0.coords t) ((dats m 0 c).after 13 t) = _
    rw [after0_13]
    funext j
    show (dyScale (row2 (hist m c))) j = (dyScale (row2 (hist m c))) (((cfg0.win 13).blk t).view.emb j)
    rw [emb13])
    (fun i : S1x1.Idx => ⟨(⟨95, last_lt⟩ : Fin cfg0.N), (flush0_13 _).2 (by show 95 % 96 = 95; decide), by
      have h := ((cfg0.win 13).blk (⟨95, last_lt⟩ : Fin cfg0.N)).view.emb_mem_set i; rwa [emb13] at h⟩)
theorem final_newHist : (dats m 0 c).arrAt 14 cfg0.N = histOut m c 95 last_lt :=
  (dats m 0 c).arrAt_eq_of_cover 14 (histOut m c 95 last_lt) (fun t hf => by
    show (cfg0.win 14).cut (grid0.coords t) ((dats m 0 c).after 14 t) = _
    rw [after0_14]
    have e : histOut m c t.val t.isLt = histOut m c 95 last_lt := by
      have e95 : t.val = 95 := by have := (flush0_14 t).1 hf; have := lt96 t; omega
      obtain ⟨n, hn⟩ := t
      obtain rfl : n = 95 := e95
      rfl
    rw [e]
    funext j
    show (histOut m c 95 last_lt) j = (histOut m c 95 last_lt) (((cfg0.win 14).blk t).view.emb j)
    rw [emb14])
    (fun i : S3x16.Idx => ⟨(⟨95, last_lt⟩ : Fin cfg0.N), (flush0_14 _).2 (by show 95 % 96 = 95; decide), by
      have h := ((cfg0.win 14).blk (⟨95, last_lt⟩ : Fin cfg0.N)).view.emb_mem_set i; rwa [emb14] at h⟩)

/-- The run with every result array as the writes leave it, the arguments unchanged. -/
theorem run_arrays : θ_run defs (onTc (τ := τ) (main (F := F))) ⟨m, fun _ => 0, ρ⟩ fun r => ∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_v3_2) = (dats m 0 c).arrAt 8 cfg0.N
      ∧ r.2.mem ((c : Thread nD τ).loc main_v3_3) = (dats m 0 c).arrAt 9 cfg0.N
      ∧ r.2.mem ((c : Thread nD τ).loc main_v3_4) = (dats m 0 c).arrAt 10 cfg0.N
      ∧ r.2.mem ((c : Thread nD τ).loc main_v3_5) = (dats m 0 c).arrAt 11 cfg0.N
      ∧ r.2.mem ((c : Thread nD τ).loc main_v3_6) = (dats m 0 c).arrAt 12 cfg0.N
      ∧ r.2.mem ((c : Thread nD τ).loc main_v3_7) = (dats m 0 c).arrAt 13 cfg0.N
      ∧ r.2.mem ((c : Thread nD τ).loc main_v3_8) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 6, (h.1 c).1 7, (h.1 c).1 8, (h.1 c).1 9, (h.1 c).1 10, (h.1 c).1 11, (h.1 c).1 12,
    (h.1 c).1 13, (h.1 c).1 14, h.2 c⟩) (θ_run_and (run_main m ρ) (unchanged m ρ))

end Cert.KernelIdeal.Step

end
-- ==== Proof.Reference.Points.lean ====
/- What the reference of `linear_step` stores in its nine results, as functions of the tokens `x`, the gradients `dy`, the
   weights' codes `w`, the history `h`, the weights' largest magnitude `wa` and the table `s` that holds the step. -/
module

public import proofs.«01_k».proof.Proof.Whole
public import proofs.«01_k».proof.Proof.Scale
public import proofs.«01_k».proof.Proof.Step.Values
public import proofs.«01_k».proof.Proof.Gen.ReferenceIdeal.Value

@[expose] public section

set_option maxRecDepth 16384

noncomputable section

namespace Cert.ReferenceIdeal.Points

open Cert.ReferenceIdeal Cert.ReferenceIdeal.Gen Cert.Whole Idealize.ShloMosaic Idealize.ShloMosaic.TcCoe
open Cert.KernelIdeal.Step (slot stepWord)

variable {F : FTy → Type} [FloatOps F]

section
variable (x : Vec F S24576x2048 .bf16) (dy : Vec F S24576x4096 .bf16) (w : Vec F S2048x4096 .fp8e4m3) (h : Vec F S3x16 .f32)
  (wa : Vec F S1x1 .f32) (s : Vec F S1 .i32)

/-- The exponent counted for the tokens' row of the history. -/
def xExp : FVec F S1x1 .f32 := k0_pay4 h
/-- The exponent counted for the weights' row. -/
def wExp : FVec F S1x1 .f32 := k0_pay6 (k0_pay5 h) (iota .tc S1x254 32 [1] iota_S1x254_d1_w32)
/-- The tokens' codes. -/
def xCodes : FVec F S24576x2048 .fp8e4m3 := k0_pay15 (k0_pay2 x) (xExp h)
/-- The gradients' codes. -/
def dyCodes : FVec F S24576x4096 .fp8e5m2 := k0_pay16 (k0_pay3 dy) (k0_pay7 h) (k0_pay8 h) (k0_pay9 h) k0_pay10
/-- The forward product, scaled. -/
def y : FVec F S24576x4096 .bf16 := k0_pay18 (k0_pay2 x) w (xExp h) (wExp h)
/-- The gradients times the weights, scaled. -/
def dx : FVec F S24576x2048 .bf16 := k0_pay19 (k0_pay3 dy) w (wExp h) (k0_pay7 h) (k0_pay8 h) (k0_pay9 h) k0_pay10
/-- The tokens times the gradients, scaled. -/
def dw : FVec F S2048x4096 .f32 :=
  k0_pay21 (k0_pay17 (k0_pay2 x) (k0_pay3 dy) (xExp h) (k0_pay7 h) (k0_pay8 h) (k0_pay9 h) k0_pay10)
    (k0_pay20 (xExp h) (k0_pay7 h) (k0_pay8 h) (k0_pay9 h) k0_pay10)
/-- The three scales. -/
def xScale : FVec F S1x1 .f32 := k0_pay12 (xExp h)
@[inherit_doc xScale]
def wScale : FVec F S1x1 .f32 := k0_pay13 (wExp h)
@[inherit_doc xScale]
def dyScale : FVec F S1x1 .f32 := k0_pay14 (k0_pay7 h) (k0_pay8 h) (k0_pay9 h) k0_pay10
/-- The history with the three maxima of this step written into the step's slot. -/
def newHist : FVec F S3x16 .f32 :=
  k0_pay1 (k0_pay3 dy) h (slot (stepWord s)) (iota .tc S3x16 32 [1] iota_S3x16_d1_w32) k0_pay22 (k0_pay23 (k0_pay2 x)) k0_pay24 wa

end

variable (c : Dev nD)
  (arg0 : Memref sig .tc .vmem S24576x2048 .bf16) (harg0 : arg0.IsWhole)
  (arg1 : Memref sig .tc .vmem S24576x4096 .bf16) (harg1 : arg1.IsWhole)
  (arg2 : Memref sig .tc .vmem S2048x4096 .fp8e4m3) (harg2 : arg2.IsWhole)
  (arg3 : Memref sig .tc .vmem S3x16 .f32) (harg3 : arg3.IsWhole)
  (arg4 : Memref sig .tc .vmem S1x1 .f32) (harg4 : arg4.IsWhole)
  (arg5 : Memref sig .tc .smem S1 .i32) (harg5 : arg5.IsWhole)
  (arg6 : Memref sig .tc .vmem S24576x4096 .bf16) (harg6 : arg6.IsWhole)
  (arg7 : Memref sig .tc .vmem S24576x2048 .bf16) (harg7 : arg7.IsWhole)
  (arg8 : Memref sig .tc .vmem S2048x4096 .f32) (harg8 : arg8.IsWhole)
  (arg9 : Memref sig .tc .vmem S24576x2048 .fp8e4m3) (harg9 : arg9.IsWhole)
  (arg10 : Memref sig .tc .vmem S24576x4096 .fp8e5m2) (harg10 : arg10.IsWhole)
  (arg11 : Memref sig .tc .vmem S1x1 .f32) (harg11 : arg11.IsWhole)
  (arg12 : Memref sig .tc .vmem S1x1 .f32) (harg12 : arg12.IsWhole)
  (arg13 : Memref sig .tc .vmem S1x1 .f32) (harg13 : arg13.IsWhole)
  (arg14 : Memref sig .tc .vmem S3x16 .f32) (harg14 : arg14.IsWhole)
  (x : Vec F S24576x2048 .bf16) (d : Vec F S24576x4096 .bf16) (w : Vec F S2048x4096 .fp8e4m3) (h : Vec F S3x16 .f32)
  (wa : Vec F S1x1 .f32) (s : Vec F S1 .i32)

theorem stored_y : out0_A_6 c arg0 harg0 arg1 harg1 arg2 harg2 arg3 harg3 arg4 harg4 arg5 harg5 arg6 harg6 arg7 harg7 arg8 harg8
    arg9 harg9 arg10 harg10 arg11 harg11 arg12 harg12 arg13 harg13 arg14 harg14 x d w h wa s = y x w h := by
  unfold out0_A_6; unfold kernelRun0_A; dsimp only
  refine (left_whole hz _ _ _ _).trans ?_
  sl_unfold_words
  simp only [View.readAt_eq_ld, harg0.read_unread, harg1.read_unread, harg2.read_unread, harg3.read_unread, ld_all]
  rfl

theorem stored_dx : out0_A_7 c arg0 harg0 arg1 harg1 arg2 harg2 arg3 harg3 arg4 harg4 arg5 harg5 arg6 harg6 arg7 harg7 arg8 harg8
    arg9 harg9 arg10 harg10 arg11 harg11 arg12 harg12 arg13 harg13 arg14 harg14 x d w h wa s = dx d w h := by
  unfold out0_A_7; unfold kernelRun0_A; dsimp only
  refine (left_whole hz _ _ _ _).trans ?_
  sl_unfold_words
  simp only [View.readAt_eq_ld, harg0.read_unread, harg1.read_unread, harg2.read_unread, harg3.read_unread, ld_all]
  rfl

theorem stored_dw : out0_A_8 c arg0 harg0 arg1 harg1 arg2 harg2 arg3 harg3 arg4 harg4 arg5 harg5 arg6 harg6 arg7 harg7 arg8 harg8
    arg9 harg9 arg10 harg10 arg11 harg11 arg12 harg12 arg13 harg13 arg14 harg14 x d w h wa s = dw x d h := by
  unfold out0_A_8; unfold kernelRun0_A; dsimp only
  refine (left_whole hz _ _ _ _).trans ?_
  sl_unfold_words
  simp only [View.readAt_eq_ld, harg0.read_unread, harg1.read_unread, harg2.read_unread, harg3.read_unread, ld_all]
  rfl

theorem stored_xCodes : out0_A_9 c arg0 harg0 arg1 harg1 arg2 harg2 arg3 harg3 arg4 harg4 arg5 harg5 arg6 harg6 arg7 harg7 arg8
    harg8 arg9 harg9 arg10 harg10 arg11 harg11 arg12 harg12 arg13 harg13 arg14 harg14 x d w h wa s = xCodes x h := by
  unfold out0_A_9; unfold kernelRun0_A; dsimp only
  refine (left_whole hz _ _ _ _).trans ?_
  sl_unfold_words
  simp only [View.readAt_eq_ld, harg0.read_unread, harg1.read_unread, harg2.read_unread, harg3.read_unread, ld_all]
  rfl

theorem stored_dyCodes : out0_A_10 c arg0 harg0 arg1 harg1 arg2 harg2 arg3 harg3 arg4 harg4 arg5 harg5 arg6 harg6 arg7 harg7 arg8
    harg8 arg9 harg9 arg10 harg10 arg11 harg11 arg12 harg12 arg13 harg13 arg14 harg14 x d w h wa s = dyCodes d h := by
  unfold out0_A_10; unfold kernelRun0_A; dsimp only
  refine (left_whole hz _ _ _ _).trans ?_
  sl_unfold_words
  simp only [View.readAt_eq_ld, harg0.read_unread, harg1.read_unread, harg2.read_unread, harg3.read_unread, ld_all]
  rfl

theorem stored_xScale : out0_A_11 c arg0 harg0 arg1 harg1 arg2 harg2 arg3 harg3 arg4 harg4 arg5 harg5 arg6 harg6 arg7 harg7 arg8
    harg8 arg9 harg9 arg10 harg10 arg11 harg11 arg12 harg12 arg13 harg13 arg14 harg14 x d w h wa s = xScale h := by
  unfold out0_A_11; unfold kernelRun0_A; dsimp only
  refine (left_whole hz _ _ _ _).trans ?_
  sl_unfold_words
  simp only [View.readAt_eq_ld, harg0.read_unread, harg1.read_unread, harg2.read_unread, harg3.read_unread, ld_all]
  rfl

theorem stored_wScale : out0_A_12 c arg0 harg0 arg1 harg1 arg2 harg2 arg3 harg3 arg4 harg4 arg5 harg5 arg6 harg6 arg7 harg7 arg8
    harg8 arg9 harg9 arg10 harg10 arg11 harg11 arg12 harg12 arg13 harg13 arg14 harg14 x d w h wa s = wScale h := by
  unfold out0_A_12; unfold kernelRun0_A; dsimp only
  refine (left_whole hz _ _ _ _).trans ?_
  sl_unfold_words
  simp only [View.readAt_eq_ld, harg0.read_unread, harg1.read_unread, harg2.read_unread, harg3.read_unread, ld_all]
  rfl

theorem stored_dyScale : out0_A_13 c arg0 harg0 arg1 harg1 arg2 harg2 arg3 harg3 arg4 harg4 arg5 harg5 arg6 harg6 arg7 harg7 arg8
    harg8 arg9 harg9 arg10 harg10 arg11 harg11 arg12 harg12 arg13 harg13 arg14 harg14 x d w h wa s = dyScale h := by
  unfold out0_A_13; unfold kernelRun0_A; dsimp only
  refine (left_whole hz _ _ _ _).trans ?_
  sl_unfold_words
  simp only [View.readAt_eq_ld, harg0.read_unread, harg1.read_unread, harg2.read_unread, harg3.read_unread, ld_all]
  rfl

theorem stored_newHist : out0_A_14 c arg0 harg0 arg1 harg1 arg2 harg2 arg3 harg3 arg4 harg4 arg5 harg5 arg6 harg6 arg7 harg7 arg8
    harg8 arg9 harg9 arg10 harg10 arg11 harg11 arg12 harg12 arg13 harg13 arg14 harg14 x d w h wa s = newHist x d h wa s := by
  unfold out0_A_14; unfold kernelRun0_A; dsimp only
  refine (left_whole hz _ _ _ _).trans ?_
  sl_unfold_words
  simp only [View.readAt_eq_ld, harg0.read_unread, harg1.read_unread, harg2.read_unread, harg3.read_unread, harg4.read_unread,
    harg5.read_unread, ld_all]
  have e : ∀ hp, View.ld s (Rect.unit (s := S1) ![0] ![1] inb_S1_S1_0) (Shape.Idx.first hp) = stepWord s :=
    fun _ => congrFun (ld_all₁ s _) _
  unfold newHist slot
  rw [← e (by decide)]
  rfl

end Cert.ReferenceIdeal.Points

end
-- ==== Proof.Step.Bridges.lean ====
/- The operations of `linear_step` and of its reference under their common names: the scales are climbed or counted, the running
   maxima advance by whole blocks, and the new history is written by one and the same selection. -/
module

public import proofs.«01_k».proof.Proof.Step.Values
public import proofs.«01_k».proof.Proof.Reference.Points
public import proofs.«01_k».proof.Proof.Absmax

@[expose] public section

set_option maxRecDepth 16384

noncomputable section

namespace Cert.KernelIdeal.Step

open Idealize.ShloMosaic Idealize.ShloMosaic.TcCoe
open Cert.KernelIdeal.Gen

variable {F : FTy → Type} [FloatOps F]

/-! ## The kernel -/

/-- The number a row's scale is built from, for the e4m3 rows and for the e5m2 row. -/
def narrow (r : Vec F S1x16 .f32) : FVec F Scale.One .f32 := Scale.magnitude 0x3B124925#32 r
@[inherit_doc narrow]
def wide (r : Vec F S1x16 .f32) : FVec F Scale.One .f32 := Scale.magnitude 0x37924925#32 r

theorem xScale_eq (r : Vec F S1x16 .f32) : xScale r = Scale.scaleOf (narrow r) := rfl
theorem xInv_eq (r : Vec F S1x16 .f32) : xInv r = Scale.inverseOf (narrow r) := rfl
theorem wScale_eq (r : Vec F S1x16 .f32) : wScale r = Scale.scaleOf (narrow r) := rfl
theorem dyScale_eq (r : Vec F S1x16 .f32) : dyScale r = Scale.scaleOf (wide r) := rfl
/-- The last step of the gradients' inverse scale is taken where the codes are made. -/
theorem dyInv_eq (r : Vec F S1x16 .f32) :
    select (dyLast r) (mulf (dyInvBefore r) (Scale.const 0x3F000000#32)) (dyInvBefore r) = Scale.inverseOf (wide r) := rfl

theorem xMax_eq (x : Vec F S256x2048 .bf16) (before : Vec F S16x2048 .bf16) : xMax x before = Absmax.advance x before := by
  unfold xMax k0_pay84 k0_pay82 k0_pay83 k0_pay78
  dsimp only
  rw [shapeCast_self, shapeCast_self]
  rfl
theorem dyMax_eq (dy : Vec F S256x4096 .bf16) (before : Vec F S16x4096 .bf16) : dyMax dy before = Absmax.advance dy before := by
  unfold dyMax k0_pay87 k0_pay85 k0_pay86 k0_pay79
  dsimp only
  rw [shapeCast_self, shapeCast_self]
  rfl

/-- The history with three maxima written into a slot, one per row. -/
def written (h : Vec F S3x16 .f32) (s : BitVec 32) (wa : Vec F S1x1 .f32) (xm dm : FVec F S1x1 .f32) : FVec F S3x16 .f32 :=
  k0_pay3 xm dm h s (iota .tc S3x16 32 [1] iota_S3x16_d1_w32) k0_pay7 k0_pay8 wa

theorem newHist_eq (h : Vec F S3x16 .f32) (s : BitVec 32) (wa : Vec F S1x1 .f32) (xrun : Vec F S16x2048 .bf16)
    (dyrun : Vec F S16x4096 .bf16) : newHist h s wa xrun dyrun = written h (slot s) wa
      (Absmax.total (extf .f32 xrun bitsLt_bf16_f32) shapeCasts_S16x2048_S1x16x2048 reduces_S1x16x2048_S1)
      (Absmax.total (extf .f32 dyrun bitsLt_bf16_f32) shapeCasts_S16x4096_S1x16x4096 reduces_S1x16x4096_S1) := rfl

/-! ## The reference -/

section
variable (h : Vec F S3x16 .f32)

/-- A row of the history, loaded alone, is the row cut out of it. -/
theorem row0_eq : row0 h = extractStridedSlice S1x16 ![0, 0] h ReferenceIdeal.Gen.slices_S3x16_o0_0_S1x16 := by
  funext j
  show h _ = h _
  congr 1
  funext a; apply Fin.ext
  match a with
  | ⟨0, _⟩ => show 0 + 1 * (j 0).val = 0 + (j 0).val; omega
  | ⟨1, _⟩ => show 0 + 1 * (j 1).val = 0 + (j 1).val; omega
@[inherit_doc row0_eq]
theorem row1_eq : row1 h = extractStridedSlice S1x16 ![1, 0] h ReferenceIdeal.Gen.slices_S3x16_o1_0_S1x16 := by
  funext j
  show h _ = h _
  congr 1
  funext a; apply Fin.ext
  match a with
  | ⟨0, _⟩ => show 1 + 1 * (j 0).val = 1 + (j 0).val; omega
  | ⟨1, _⟩ => show 0 + 1 * (j 1).val = 0 + (j 1).val; omega
@[inherit_doc row0_eq]
theorem row2_eq : row2 h = extractStridedSlice S1x16 ![2, 0] h ReferenceIdeal.Gen.slices_S3x16_o2_0_S1x16 := by
  funext j
  show h _ = h _
  congr 1
  funext a; apply Fin.ext
  match a with
  | ⟨0, _⟩ => show 2 + 1 * (j 0).val = 2 + (j 0).val; omega
  | ⟨1, _⟩ => show 0 + 1 * (j 1).val = 0 + (j 1).val; omega

theorem xExp_eq : ReferenceIdeal.Points.xExp h = Scale.exponent (narrow (row0 h)) := by rw [row0_eq]; rfl
theorem wExp_eq : ReferenceIdeal.Points.wExp h = Scale.exponent (narrow (row1 h)) := by rw [row1_eq]; rfl
theorem dyExp_eq : ReferenceIdeal.Gen.k0_pay11 (ReferenceIdeal.Gen.k0_pay7 h) (ReferenceIdeal.Gen.k0_pay8 h)
    (ReferenceIdeal.Gen.k0_pay9 h) ReferenceIdeal.Gen.k0_pay10 = Scale.exponent (wide (row2 h)) := by rw [row2_eq]; rfl

/-- The reference's new history. -/
theorem ref_newHist_eq (x : Vec F S24576x2048 .bf16) (dy : Vec F S24576x4096 .bf16) (wa : Vec F S1x1 .f32) (s : Vec F S1 .i32) :
    ReferenceIdeal.Points.newHist x dy h wa s = written h (slot (stepWord s)) wa
      (Absmax.total (absf (extf .f32 x bitsLt_bf16_f32)) ReferenceIdeal.Gen.shapeCasts_S24576x2048_S1x24576x2048
        ReferenceIdeal.Gen.reduces_S1x24576x2048_S1)
      (Absmax.total (absf (extf .f32 dy bitsLt_bf16_f32)) ReferenceIdeal.Gen.shapeCasts_S24576x4096_S1x24576x4096
        ReferenceIdeal.Gen.reduces_S1x24576x4096_S1) := by
  unfold ReferenceIdeal.Points.newHist ReferenceIdeal.Gen.k0_pay2 ReferenceIdeal.Gen.k0_pay3
  dsimp only
  rw [shapeCast_self, shapeCast_self]
  rfl

end

end Cert.KernelIdeal.Step

end
-- ==== Proof.Product.lean ====
/-
  A PRODUCT CONTRACTED OVER THE ROWS OF BOTH OPERANDS, `[K,M]ᵀ × [K,N]`: entry `(r, c)` is the sum over the rows `k` of
  `lhs[k,r] · rhs[k,c]`. Cut into blocks of rows, the whole sum is the sum of the blocks' sums, one block after another.
-/
module

public import Idealize.ShloMosaic.Lib.MatmulPlain
public import proofs.«01_k».proof.Proof.Quantise

@[expose] public section

namespace Cert.Product

open Idealize.ShloMosaic Idealize.ShloMosaic.ValueIdx
open scoped BigOperators

/-- `[K,M]ᵀ × [K,N]`. -/
def acrossRows (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Its contraction index has one coordinate, -/
theorem contr_rank (M K N : ℕ) : (acrossRows M K N).contr.rank = 1 := rfl
/-- which runs over the rows. -/
theorem contr_size (M K N : ℕ) : (acrossRows M K N).contr.size ⟨0, by rw [contr_rank]; exact Nat.one_pos⟩ = K := rfl

/-- The product at `(r, c)`: the accumulator plus the sum over the rows. -/
theorem acrossRows_apply {M K N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (acrossRows M K N) prec lhs rhs acc (ix2 r c) = acc (ix2 r c) + ∑ k : Fin K, lhs (ix2 k r) * rhs (ix2 k c) := by
  rw [Ideal.matmul_apply, ← Equiv.sum_comp (contrEquiv1 _ K (contr_rank M K N) (contr_size M K N)).symm]
  refine congrArg (acc (ix2 r c) + ·) (Finset.sum_congr rfl fun k _ => ?_)
  have hk := contrEquiv1_symm_val _ K (contr_rank M K N) (contr_size M K N) k
  have el : (acrossRows M K N).lhsIdx (ix2 r c) ((contrEquiv1 _ K (contr_rank M K N) (contr_size M K N)).symm k) = ix2 k r := by
    funext a; apply Fin.ext
    match a with
    | ⟨0, _⟩ => exact hk
    | ⟨1, _⟩ => rfl
  have er : (acrossRows M K N).rhsIdx (ix2 r c) ((contrEquiv1 _ K (contr_rank M K N) (contr_size M K N)).symm k) = ix2 k c := by
    funext a; apply Fin.ext
    match a with
    | ⟨0, _⟩ => exact hk
    | ⟨1, _⟩ => rfl
  rw [el, er]

/-- An index of two axes is its two coordinates. -/
theorem ix2_eta {a b : ℕ} (i : (⟨2, ![a, b]⟩ : Shape).Idx) : i = ix2 (n0 := a) (n1 := b) (i 0) (i 1) := by
  funext k
  match k with
  | ⟨0, _⟩ => rfl
  | ⟨1, _⟩ => rfl

/-- A zero constant is zero at every index. -/
theorem zero_apply (s : Shape) (j : s.Idx) : (constant (F := Ideal) s .f32 0x00000000#32 j : EReal) = 0 := Ideal.ofBits_zero_f32

section
variable {M K N : ℕ} {φ₁ φ₂ : FTy} (s t : FVec Ideal Scale.One .f32) (h : Scale.One.Broadcasts ⟨2, ![M, N]⟩) (r : Fin M) (c : Fin N)

/-- A product `[M,K] × [K,N]` times two scales, at `(r, c)`. -/
theorem plain_scaled (lhs : FVec Ideal ⟨2, ![M, K]⟩ φ₁) (rhs : FVec Ideal ⟨2, ![K, N]⟩ φ₂) :
    (truncf .bf16 (mulf (matmul (DotDims.plain M K N) none lhs rhs (constant ⟨2, ![M, N]⟩ .f32 0x00000000#32))
      (broadcastTo ⟨2, ![M, N]⟩ (mulf s t) h)) (by decide) : FVec Ideal ⟨2, ![M, N]⟩ .bf16) (ix2 r c)
      = ((∑ k : Fin K, lhs (ix2 r k) * rhs (ix2 k c)) * (s Quantise.o * t Quantise.o) : EReal) := by
  show ((FloatOps.matmul (DotDims.plain M K N) none lhs rhs (constant ⟨2, ![M, N]⟩ .f32 0x00000000#32) (ix2 r c) : EReal)
    * broadcastTo ⟨2, ![M, N]⟩ (mulf s t) h (ix2 r c) : EReal) = _
  rw [Ideal.matmul_plain_apply, zero_apply, zero_add, Quantise.spread]
  rfl

/-- A product `[M,K] × [N,K]ᵀ` times two scales, at `(r, c)`. -/
theorem transposed_scaled (lhs : FVec Ideal ⟨2, ![M, K]⟩ φ₁) (rhs : FVec Ideal ⟨2, ![N, K]⟩ φ₂) :
    (truncf .bf16 (mulf (matmul (DotDims.transposedRhs M K N) none lhs rhs (constant ⟨2, ![M, N]⟩ .f32 0x00000000#32))
      (broadcastTo ⟨2, ![M, N]⟩ (mulf s t) h)) (by decide) : FVec Ideal ⟨2, ![M, N]⟩ .bf16) (ix2 r c)
      = ((∑ k : Fin K, lhs (ix2 r k) * rhs (ix2 c k)) * (s Quantise.o * t Quantise.o) : EReal) := by
  show ((FloatOps.matmul (DotDims.transposedRhs M K N) none lhs rhs (constant ⟨2, ![M, N]⟩ .f32 0x00000000#32) (ix2 r c) : EReal)
    * broadcastTo ⟨2, ![M, N]⟩ (mulf s t) h (ix2 r c) : EReal) = _
  rw [Ideal.matmul_transposedRhs_apply, zero_apply, zero_add, Quantise.spread]
  rfl

/-- A product `[K,M]ᵀ × [K,N]` at `(r, c)`. -/
theorem across_apply (lhs : FVec Ideal ⟨2, ![K, M]⟩ φ₁) (rhs : FVec Ideal ⟨2, ![K, N]⟩ φ₂) :
    (matmul (acrossRows M K N) none lhs rhs (constant ⟨2, ![M, N]⟩ .f32 0x00000000#32) (ix2 r c) : EReal)
      = (∑ k : Fin K, lhs (ix2 k r) * rhs (ix2 k c) : EReal) := by
  refine (acrossRows_apply none lhs rhs _ r c).trans ?_
  rw [zero_apply, zero_add]

end

/-- The first `n + 1` blocks of `b` terms are the first `n` and one more. -/
theorem sum_block (f : ℕ → EReal) (b n : ℕ) :
    (∑ k ∈ Finset.range (b * (n + 1)), f k) = (∑ k ∈ Finset.range (b * n), f k) + ∑ k : Fin b, f (b * n + k.val) := by
  rw [Nat.mul_succ, Finset.sum_range_add, Finset.sum_range (fun x => f (b * n + x))]

end Cert.Product
-- ==== Proof.Reference.Final.lean ====
/- The reference of `linear_step` runs at one point whose blocks are the whole arrays, so every result array ends holding
   what the point stores, read at the arguments. -/
module

public import proofs.«01_k».proof.Proof.Reference.Points

@[expose] public section

set_option maxRecDepth 16384

noncomputable section

namespace Cert.ReferenceIdeal.Final

open Cert.ReferenceIdeal Cert.ReferenceIdeal.Gen Cert.ReferenceIdeal.Points Idealize.ShloMosaic Idealize.ShloMosaic.TcCoe
open Idealize.SL.Sem

variable {F : FTy → Type} [FloatOps F]
variable (m : (ℓ : Loc nD τ sig) → Buf (Elt F) ℓ) (ρ : Dev nD → PrngReg) (c : Dev nD)

/-! ## The arguments, as the point reads them -/

/-- The tokens: the first argument with its two leading axes merged. -/
def tokens : Vec F S24576x2048 .bf16 := shapeCast S24576x2048 (m ((c : Thread nD τ).loc main_arg0)) shapeCasts_S6x4096x2048_S24576x2048
/-- The gradients: the second argument with its two leading axes merged. -/
def grads : Vec F S24576x4096 .bf16 := shapeCast S24576x4096 (m ((c : Thread nD τ).loc main_arg1)) shapeCasts_S6x4096x4096_S24576x4096
/-- The weights' codes, the history, the weights' largest magnitude. -/
def wCodes : Vec F S2048x4096 .fp8e4m3 := m ((c : Thread nD τ).loc main_arg2)
@[inherit_doc wCodes]
def hist : Vec F S3x16 .f32 := m ((c : Thread nD τ).loc main_arg3)
@[inherit_doc wCodes]
def wAmax : Vec F S1x1 .f32 := m ((c : Thread nD τ).loc main_arg4)
/-- The step, as a table of one word. -/
def step : Vec F S1 .i32 := shapeCast S1 (m ((c : Thread nD τ).loc main_arg5)) shapeCasts_S_S1

theorem V_tokens : V m c main_v0 = tokens m c := by
  show StableHlo.after hostOps0 _ (Proc.devRef .tc main_v0) = _
  after_results
  rfl
theorem V_grads : V m c main_v1 = grads m c := by
  show StableHlo.after hostOps0 _ (Proc.devRef .tc main_v1) = _
  after_results
  rfl
theorem V_step : V m c main_v2 = step m c := by
  show StableHlo.after hostOps0 _ (Proc.devRef .tc main_v2) = _
  after_results
  rfl

/-! ## Every window's block is its array -/

theorem emb0 (t : Fin cfg0.N) (j : S24576x2048.Idx) : ((cfg0.win 0).blk t).view.emb j = j := by
  obtain ⟨e0, e1⟩ := (by decide +kernel : ∀ t : Fin grid0.N, win0_0.index t (0 : Fin 2) = 0 ∧ win0_0.index t (1 : Fin 2) = 0) t
  funext a; apply Fin.ext
  match a with
  | ⟨0, _⟩ => show win0_0.index t (0 : Fin 2) * 24576 + 1 * (j 0).val = (j 0).val; omega
  | ⟨1, _⟩ => show win0_0.index t (1 : Fin 2) * 2048 + 1 * (j 1).val = (j 1).val; omega
theorem emb1 (t : Fin cfg0.N) (j : S24576x4096.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 24576 + 1 * (j 0).val = (j 0).val; omega
  | ⟨1, _⟩ => show win0_1.index t (1 : Fin 2) * 4096 + 1 * (j 1).val = (j 1).val; omega
theorem emb2 (t : Fin cfg0.N) (j : S2048x4096.Idx) : ((cfg0.win 2).blk t).view.emb j = j := by
  obtain ⟨e0, e1⟩ := (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 2048 + 1 * (j 0).val = (j 0).val; omega
  | ⟨1, _⟩ => show win0_2.index t (1 : Fin 2) * 4096 + 1 * (j 1).val = (j 1).val; omega
theorem emb3 (t : Fin cfg0.N) (j : S3x16.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 3 + 1 * (j 0).val = (j 0).val; omega
  | ⟨1, _⟩ => show win0_3.index t (1 : Fin 2) * 16 + 1 * (j 1).val = (j 1).val; omega
theorem emb4 (t : Fin cfg0.N) (j : S1x1.Idx) : ((cfg0.win 4).blk t).view.emb j = j := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 1 + 1 * (j 0).val = (j 0).val; omega
  | ⟨1, _⟩ => show win0_4.index t (1 : Fin 2) * 1 + 1 * (j 1).val = (j 1).val; omega
theorem emb6 (t : Fin cfg0.N) (j : S24576x4096.Idx) : ((cfg0.win 6).blk t).view.emb j = j := by
  obtain ⟨e0, e1⟩ := (by decide +kernel : ∀ t : Fin grid0.N, win0_6.index t (0 : Fin 2) = 0 ∧ win0_6.index t (1 : Fin 2) = 0) t
  funext a; apply Fin.ext
  match a with
  | ⟨0, _⟩ => show win0_6.index t (0 : Fin 2) * 24576 + 1 * (j 0).val = (j 0).val; omega
  | ⟨1, _⟩ => show win0_6.index t (1 : Fin 2) * 4096 + 1 * (j 1).val = (j 1).val; omega
theorem emb7 (t : Fin cfg0.N) (j : S24576x2048.Idx) : ((cfg0.win 7).blk t).view.emb j = j := by
  obtain ⟨e0, e1⟩ := (by decide +kernel : ∀ t : Fin grid0.N, win0_7.index t (0 : Fin 2) = 0 ∧ win0_7.index t (1 : Fin 2) = 0) t
  funext a; apply Fin.ext
  match a with
  | ⟨0, _⟩ => show win0_7.index t (0 : Fin 2) * 24576 + 1 * (j 0).val = (j 0).val; omega
  | ⟨1, _⟩ => show win0_7.index t (1 : Fin 2) * 2048 + 1 * (j 1).val = (j 1).val; omega
theorem emb8 (t : Fin cfg0.N) (j : S2048x4096.Idx) : ((cfg0.win 8).blk t).view.emb j = j := by
  obtain ⟨e0, e1⟩ := (by decide +kernel : ∀ t : Fin grid0.N, win0_8.index t (0 : Fin 2) = 0 ∧ win0_8.index t (1 : Fin 2) = 0) t
  funext a; apply Fin.ext
  match a with
  | ⟨0, _⟩ => show win0_8.index t (0 : Fin 2) * 2048 + 1 * (j 0).val = (j 0).val; omega
  | ⟨1, _⟩ => show win0_8.index t (1 : Fin 2) * 4096 + 1 * (j 1).val = (j 1).val; omega
theorem emb9 (t : Fin cfg0.N) (j : S24576x2048.Idx) : ((cfg0.win 9).blk t).view.emb j = j := by
  obtain ⟨e0, e1⟩ := (by decide +kernel : ∀ t : Fin grid0.N, win0_9.index t (0 : Fin 2) = 0 ∧ win0_9.index t (1 : Fin 2) = 0) t
  funext a; apply Fin.ext
  match a with
  | ⟨0, _⟩ => show win0_9.index t (0 : Fin 2) * 24576 + 1 * (j 0).val = (j 0).val; omega
  | ⟨1, _⟩ => show win0_9.index t (1 : Fin 2) * 2048 + 1 * (j 1).val = (j 1).val; omega
theorem emb10 (t : Fin cfg0.N) (j : S24576x4096.Idx) : ((cfg0.win 10).blk t).view.emb j = j := by
  obtain ⟨e0, e1⟩ := (by decide +kernel : ∀ t : Fin grid0.N, win0_10.index t (0 : Fin 2) = 0 ∧ win0_10.index t (1 : Fin 2) = 0) t
  funext a; apply Fin.ext
  match a with
  | ⟨0, _⟩ => show win0_10.index t (0 : Fin 2) * 24576 + 1 * (j 0).val = (j 0).val; omega
  | ⟨1, _⟩ => show win0_10.index t (1 : Fin 2) * 4096 + 1 * (j 1).val = (j 1).val; omega
theorem emb11 (t : Fin cfg0.N) (j : S1x1.Idx) : ((cfg0.win 11).blk t).view.emb j = j := by
  obtain ⟨e0, e1⟩ := (by decide +kernel : ∀ t : Fin grid0.N, win0_11.index t (0 : Fin 2) = 0 ∧ win0_11.index t (1 : Fin 2) = 0) t
  funext a; apply Fin.ext
  match a with
  | ⟨0, _⟩ => show win0_11.index t (0 : Fin 2) * 1 + 1 * (j 0).val = (j 0).val; omega
  | ⟨1, _⟩ => show win0_11.index t (1 : Fin 2) * 1 + 1 * (j 1).val = (j 1).val; omega
theorem emb12 (t : Fin cfg0.N) (j : S1x1.Idx) : ((cfg0.win 12).blk t).view.emb j = j := by
  obtain ⟨e0, e1⟩ := (by decide +kernel : ∀ t : Fin grid0.N, win0_12.index t (0 : Fin 2) = 0 ∧ win0_12.index t (1 : Fin 2) = 0) t
  funext a; apply Fin.ext
  match a with
  | ⟨0, _⟩ => show win0_12.index t (0 : Fin 2) * 1 + 1 * (j 0).val = (j 0).val; omega
  | ⟨1, _⟩ => show win0_12.index t (1 : Fin 2) * 1 + 1 * (j 1).val = (j 1).val; omega
theorem emb13 (t : Fin cfg0.N) (j : S1x1.Idx) : ((cfg0.win 13).blk t).view.emb j = j := by
  obtain ⟨e0, e1⟩ := (by decide +kernel : ∀ t : Fin grid0.N, win0_13.index t (0 : Fin 2) = 0 ∧ win0_13.index t (1 : Fin 2) = 0) t
  funext a; apply Fin.ext
  match a with
  | ⟨0, _⟩ => show win0_13.index t (0 : Fin 2) * 1 + 1 * (j 0).val = (j 0).val; omega
  | ⟨1, _⟩ => show win0_13.index t (1 : Fin 2) * 1 + 1 * (j 1).val = (j 1).val; omega
theorem emb14 (t : Fin cfg0.N) (j : S3x16.Idx) : ((cfg0.win 14).blk t).view.emb j = j := by
  obtain ⟨e0, e1⟩ := (by decide +kernel : ∀ t : Fin grid0.N, win0_14.index t (0 : Fin 2) = 0 ∧ win0_14.index t (1 : Fin 2) = 0) t
  funext a; apply Fin.ext
  match a with
  | ⟨0, _⟩ => show win0_14.index t (0 : Fin 2) * 3 + 1 * (j 0).val = (j 0).val; omega
  | ⟨1, _⟩ => show win0_14.index t (1 : Fin 2) * 16 + 1 * (j 1).val = (j 1).val; omega
theorem emb5 (t : Fin cfg0.N) (j : S1.Idx) : ((cfg0.win 5).blk t).view.emb j = j := by
  have e0 := (by decide +kernel : ∀ t : Fin grid0.N, win0_5.index t (0 : Fin 1) = 0) t
  funext a; apply Fin.ext
  match a with
  | ⟨0, _⟩ => show win0_5.index t (0 : Fin 1) * 1 + 1 * (j 0).val = (j 0).val; omega

theorem block_tokens (t : Fin cfg0.N) : iblk m c 0 t = tokens m c := by
  refine Eq.trans ?_ (V_tokens m c)
  funext j; show V m c main_v0 (((cfg0.win 0).blk t).view.emb j) = V m c main_v0 j; rw [emb0]
theorem block_grads (t : Fin cfg0.N) : iblk m c 1 t = grads m c := by
  refine Eq.trans ?_ (V_grads m c)
  funext j; show V m c main_v1 (((cfg0.win 1).blk t).view.emb j) = V m c main_v1 j; rw [emb1]
theorem block_wCodes (t : Fin cfg0.N) : iblk m c 2 t = wCodes m c := by
  refine Eq.trans ?_ (V_main_arg2 m c)
  funext j; show V m c main_arg2 (((cfg0.win 2).blk t).view.emb j) = V m c main_arg2 j; rw [emb2]
theorem block_hist (t : Fin cfg0.N) : iblk m c 3 t = hist m c := by
  refine Eq.trans ?_ (V_main_arg3 m c)
  funext j; show V m c main_arg3 (((cfg0.win 3).blk t).view.emb j) = V m c main_arg3 j; rw [emb3]
theorem block_wAmax (t : Fin cfg0.N) : iblk m c 4 t = wAmax m c := by
  refine Eq.trans ?_ (V_main_arg4 m c)
  funext j; show V m c main_arg4 (((cfg0.win 4).blk t).view.emb j) = V m c main_arg4 j; rw [emb4]
theorem block_step (t : Fin cfg0.N) : iblk m c 5 t = step m c := by
  refine Eq.trans ?_ (V_step m c)
  funext j; show V m c main_v2 (((cfg0.win 5).blk t).view.emb j) = V m c main_v2 j; rw [emb5]

/-! ## The result arrays -/

theorem final_y : (dats m 0 c).arrAt 6 cfg0.N = y (tokens m c) (wCodes m c) (hist m c) :=
  (dats m 0 c).arrAt_eq_of_cover 6 (y (tokens m c) (wCodes m c) (hist m c)) (fun t _ => by
    rw [Value.flushed6_A, stored_y]
    simp only [block_tokens, block_grads, block_wCodes, block_hist, block_wAmax, block_step]
    funext j
    show (y (tokens m c) (wCodes m c) (hist m c)) j = (y (tokens m c) (wCodes m c) (hist m c)) (((cfg0.win 6).blk t).view.emb j)
    rw [emb6])
    (fun i : S24576x4096.Idx => ⟨(⟨0, by decide⟩ : Fin cfg0.N), flush0_6 _, by
      have h := ((cfg0.win 6).blk (⟨0, by decide⟩ : Fin cfg0.N)).view.emb_mem_set i; rwa [emb6] at h⟩)
theorem final_dx : (dats m 0 c).arrAt 7 cfg0.N = dx (grads m c) (wCodes m c) (hist m c) :=
  (dats m 0 c).arrAt_eq_of_cover 7 (dx (grads m c) (wCodes m c) (hist m c)) (fun t _ => by
    rw [Value.flushed7_A, stored_dx]
    simp only [block_tokens, block_grads, block_wCodes, block_hist, block_wAmax, block_step]
    funext j
    show (dx (grads m c) (wCodes m c) (hist m c)) j = (dx (grads m c) (wCodes m c) (hist m c)) (((cfg0.win 7).blk t).view.emb j)
    rw [emb7])
    (fun i : S24576x2048.Idx => ⟨(⟨0, by decide⟩ : Fin cfg0.N), flush0_7 _, by
      have h := ((cfg0.win 7).blk (⟨0, by decide⟩ : Fin cfg0.N)).view.emb_mem_set i; rwa [emb7] at h⟩)
theorem final_dw : (dats m 0 c).arrAt 8 cfg0.N = dw (tokens m c) (grads m c) (hist m c) :=
  (dats m 0 c).arrAt_eq_of_cover 8 (dw (tokens m c) (grads m c) (hist m c)) (fun t _ => by
    rw [Value.flushed8_A, stored_dw]
    simp only [block_tokens, block_grads, block_wCodes, block_hist, block_wAmax, block_step]
    funext j
    show (dw (tokens m c) (grads m c) (hist m c)) j = (dw (tokens m c) (grads m c) (hist m c)) (((cfg0.win 8).blk t).view.emb j)
    rw [emb8])
    (fun i : S2048x4096.Idx => ⟨(⟨0, by decide⟩ : Fin cfg0.N), flush0_8 _, by
      have h := ((cfg0.win 8).blk (⟨0, by decide⟩ : Fin cfg0.N)).view.emb_mem_set i; rwa [emb8] at h⟩)
theorem final_xCodes : (dats m 0 c).arrAt 9 cfg0.N = xCodes (tokens m c) (hist m c) :=
  (dats m 0 c).arrAt_eq_of_cover 9 (xCodes (tokens m c) (hist m c)) (fun t _ => by
    rw [Value.flushed9_A, stored_xCodes]
    simp only [block_tokens, block_grads, block_wCodes, block_hist, block_wAmax, block_step]
    funext j
    show (xCodes (tokens m c) (hist m c)) j = (xCodes (tokens m c) (hist m c)) (((cfg0.win 9).blk t).view.emb j)
    rw [emb9])
    (fun i : S24576x2048.Idx => ⟨(⟨0, by decide⟩ : Fin cfg0.N), flush0_9 _, by
      have h := ((cfg0.win 9).blk (⟨0, by decide⟩ : Fin cfg0.N)).view.emb_mem_set i; rwa [emb9] at h⟩)
theorem final_dyCodes : (dats m 0 c).arrAt 10 cfg0.N = dyCodes (grads m c) (hist m c) :=
  (dats m 0 c).arrAt_eq_of_cover 10 (dyCodes (grads m c) (hist m c)) (fun t _ => by
    rw [Value.flushed10_A, stored_dyCodes]
    simp only [block_tokens, block_grads, block_wCodes, block_hist, block_wAmax, block_step]
    funext j
    show (dyCodes (grads m c) (hist m c)) j = (dyCodes (grads m c) (hist m c)) (((cfg0.win 10).blk t).view.emb j)
    rw [emb10])
    (fun i : S24576x4096.Idx => ⟨(⟨0, by decide⟩ : Fin cfg0.N), flush0_10 _, by
      have h := ((cfg0.win 10).blk (⟨0, by decide⟩ : Fin cfg0.N)).view.emb_mem_set i; rwa [emb10] at h⟩)
theorem final_xScale : (dats m 0 c).arrAt 11 cfg0.N = xScale (hist m c) :=
  (dats m 0 c).arrAt_eq_of_cover 11 (xScale (hist m c)) (fun t _ => by
    rw [Value.flushed11_A, stored_xScale]
    simp only [block_tokens, block_grads, block_wCodes, block_hist, block_wAmax, block_step]
    funext j
    show (xScale (hist m c)) j = (xScale (hist m c)) (((cfg0.win 11).blk t).view.emb j)
    rw [emb11])
    (fun i : S1x1.Idx => ⟨(⟨0, by decide⟩ : Fin cfg0.N), flush0_11 _, by
      have h := ((cfg0.win 11).blk (⟨0, by decide⟩ : Fin cfg0.N)).view.emb_mem_set i; rwa [emb11] at h⟩)
theorem final_wScale : (dats m 0 c).arrAt 12 cfg0.N = wScale (hist m c) :=
  (dats m 0 c).arrAt_eq_of_cover 12 (wScale (hist m c)) (fun t _ => by
    rw [Value.flushed12_A, stored_wScale]
    simp only [block_tokens, block_grads, block_wCodes, block_hist, block_wAmax, block_step]
    funext j
    show (wScale (hist m c)) j = (wScale (hist m c)) (((cfg0.win 12).blk t).view.emb j)
    rw [emb12])
    (fun i : S1x1.Idx => ⟨(⟨0, by decide⟩ : Fin cfg0.N), flush0_12 _, by
      have h := ((cfg0.win 12).blk (⟨0, by decide⟩ : Fin cfg0.N)).view.emb_mem_set i; rwa [emb12] at h⟩)
theorem final_dyScale : (dats m 0 c).arrAt 13 cfg0.N = dyScale (hist m c) :=
  (dats m 0 c).arrAt_eq_of_cover 13 (dyScale (hist m c)) (fun t _ => by
    rw [Value.flushed13_A, stored_dyScale]
    simp only [block_tokens, block_grads, block_wCodes, block_hist, block_wAmax, block_step]
    funext j
    show (dyScale (hist m c)) j = (dyScale (hist m c)) (((cfg0.win 13).blk t).view.emb j)
    rw [emb13])
    (fun i : S1x1.Idx => ⟨(⟨0, by decide⟩ : Fin cfg0.N), flush0_13 _, by
      have h := ((cfg0.win 13).blk (⟨0, by decide⟩ : Fin cfg0.N)).view.emb_mem_set i; rwa [emb13] at h⟩)
theorem final_newHist : (dats m 0 c).arrAt 14 cfg0.N = newHist (tokens m c) (grads m c) (hist m c) (wAmax m c) (step m c) :=
  (dats m 0 c).arrAt_eq_of_cover 14 (newHist (tokens m c) (grads m c) (hist m c) (wAmax m c) (step m c)) (fun t _ => by
    rw [Value.flushed14_A, stored_newHist]
    simp only [block_tokens, block_grads, block_wCodes, block_hist, block_wAmax, block_step]
    funext j
    show (newHist (tokens m c) (grads m c) (hist m c) (wAmax m c) (step m c)) j = (newHist (tokens m c) (grads m c) (hist m c) (wAmax m c) (step m c)) (((cfg0.win 14).blk t).view.emb j)
    rw [emb14])
    (fun i : S3x16.Idx => ⟨(⟨0, by decide⟩ : Fin cfg0.N), flush0_14 _, by
      have h := ((cfg0.win 14).blk (⟨0, by decide⟩ : Fin cfg0.N)).view.emb_mem_set i; rwa [emb14] at h⟩)

/-- The run with every result array named, the arguments unchanged. -/
theorem run : θ_run defs (onTc (τ := τ) (main (F := F))) ⟨m, fun _ => 0, ρ⟩ fun r => ∀ c : Dev nD,
      r.2.mem ((c : Thread nD τ).loc main_v3_0) = y (tokens m c) (wCodes m c) (hist m c)
      ∧ r.2.mem ((c : Thread nD τ).loc main_v3_1) = dx (grads m c) (wCodes m c) (hist m c)
      ∧ r.2.mem ((c : Thread nD τ).loc main_v3_2) = dw (tokens m c) (grads m c) (hist m c)
      ∧ r.2.mem ((c : Thread nD τ).loc main_v3_3) = xCodes (tokens m c) (hist m c)
      ∧ r.2.mem ((c : Thread nD τ).loc main_v3_4) = dyCodes (grads m c) (hist m c)
      ∧ r.2.mem ((c : Thread nD τ).loc main_v3_5) = xScale (hist m c)
      ∧ r.2.mem ((c : Thread nD τ).loc main_v3_6) = wScale (hist m c)
      ∧ r.2.mem ((c : Thread nD τ).loc main_v3_7) = dyScale (hist m c)
      ∧ r.2.mem ((c : Thread nD τ).loc main_v3_8) = newHist (tokens m c) (grads m c) (hist m c) (wAmax m c) (step m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h0, h1, h2, h3, h4, h5, h6, h7, h8, k⟩ := h c
    exact ⟨h0.trans (final_y m c), h1.trans (final_dx m c), h2.trans (final_dw m c), h3.trans (final_xCodes m c),
      h4.trans (final_dyCodes m c), h5.trans (final_xScale m c), h6.trans (final_wScale m c), h7.trans (final_dyScale m c),
      h8.trans (final_newHist m c), k⟩)
    (Value.run_blocks m ρ)

end Cert.ReferenceIdeal.Final

end
-- ==== Proof.Step.Equation.lean ====
/- What `linear_step` leaves in its nine result arrays is what the reference computes, over the extended reals: the codes entry
   by entry, the two products written per block as the whole products' rows, the accumulated product as the sum over all rows,
   the scales, and the history with the maxima of all magnitudes. -/
module

public import proofs.«01_k».proof.Proof.Step.Blocks
public import proofs.«01_k».proof.Proof.Step.Bridges
public import proofs.«01_k».proof.Proof.Product
public import proofs.«01_k».proof.Proof.Reference.Final

@[expose] public section

set_option maxRecDepth 16384

noncomputable section

namespace Cert.KernelIdeal.Equation

open Idealize.ShloMosaic hiding ix2
open Idealize.ShloMosaic.TcCoe Idealize.ShloMosaic.ValueIdx
open Cert.KernelIdeal.Gen Cert.KernelIdeal.Step Cert.Quantise
open scoped BigOperators

/-! ## Scales and codes -/

section
variable (h : Vec Ideal S3x16 .f32)

/-- The inverse scales of the tokens and of the gradients, as numbers. -/
def xi : EReal := Scale.inverseOf (narrow (row0 h)) o
@[inherit_doc xi]
def yi : EReal := Scale.inverseOf (wide (row2 h)) o

theorem xScale_same : xScale (row0 h) = ReferenceIdeal.Points.xScale h := by
  unfold ReferenceIdeal.Points.xScale
  rw [xScale_eq, xExp_eq, Scale.scaleOf_eq]; rfl
theorem wScale_same : wScale (row1 h) = ReferenceIdeal.Points.wScale h := by
  unfold ReferenceIdeal.Points.wScale
  rw [wScale_eq, wExp_eq, Scale.scaleOf_eq]; rfl
theorem dyScale_same : dyScale (row2 h) = ReferenceIdeal.Points.dyScale h := by
  unfold ReferenceIdeal.Points.dyScale ReferenceIdeal.Gen.k0_pay14
  rw [dyScale_eq, dyExp_eq, Scale.scaleOf_eq]

/-- An entry of a block's codes. -/
theorem xCodes_apply (x : Vec Ideal S256x2048 .bf16) (j : S256x2048.Idx) : (xCodes h x j : EReal) = clip 448 (xi h) (x j) := by
  refine (kernel_e4m3 S256x2048 (xInv (row0 h)) broadcasts_S1x1_S256x2048 j (k0_pay78 x)).trans ?_
  unfold k0_pay78
  rw [shapeCast_self, xInv_eq]
  rfl
theorem dyCodes_apply (dy : Vec Ideal S256x4096 .bf16) (j : S256x4096.Idx) : (dyCodes h dy j : EReal) = clip 57344 (yi h) (dy j) := by
  refine (kernel_e5m2 S256x4096 (select (dyLast (row2 h)) (mulf (dyInvBefore (row2 h)) (Scale.const 0x3F000000#32)) (dyInvBefore (row2 h)))
    broadcasts_S1x1_S256x4096 j (k0_pay79 dy)).trans ?_
  unfold k0_pay79
  rw [shapeCast_self, dyInv_eq]
  rfl

/-- An entry of the reference's codes. -/
theorem ref_xCodes_apply (x : Vec Ideal S24576x2048 .bf16) (i : S24576x2048.Idx) :
    (ReferenceIdeal.Points.xCodes x h i : EReal) = clip 448 (xi h) (x i) := by
  unfold ReferenceIdeal.Points.xCodes ReferenceIdeal.Gen.k0_pay2
  dsimp only
  rw [shapeCast_self, xExp_eq]
  unfold xi
  rw [Scale.inverseOf_eq]
  show min (Ideal.ofBits .f32 0x43E00000#32) (max (Ideal.ofBits .f32 0xC3E00000#32)
    (x i * broadcastTo S24576x2048 (exp2 (subf (Scale.const 0x00000000#32) (Scale.exponent (narrow (F := Ideal) (row0 h)))))
      ReferenceIdeal.Gen.broadcasts_S1x1_S24576x2048 i)) = _
  rw [f32_448, f32_neg_448, spread]
  rfl
theorem ref_dyCodes_apply (dy : Vec Ideal S24576x4096 .bf16) (i : S24576x4096.Idx) :
    (ReferenceIdeal.Points.dyCodes dy h i : EReal) = clip 57344 (yi h) (dy i) := by
  unfold ReferenceIdeal.Points.dyCodes ReferenceIdeal.Gen.k0_pay3 ReferenceIdeal.Gen.k0_pay16
  dsimp only
  rw [shapeCast_self, dyExp_eq]
  unfold yi
  rw [Scale.inverseOf_eq]
  show min (Ideal.ofBits .f32 0x47600000#32) (max (Ideal.ofBits .f32 0xC7600000#32)
    (dy i * broadcastTo S24576x4096 (exp2 (subf (Scale.const 0x00000000#32) (Scale.exponent (wide (F := Ideal) (row2 h)))))
      ReferenceIdeal.Gen.broadcasts_S1x1_S24576x4096 i)) = _
  rw [f32_57344, f32_neg_57344, spread]
  rfl

/-! ## The two products written block by block -/

variable (w : Vec Ideal S2048x4096 .fp8e4m3)

theorem yBlock_apply (x : Vec Ideal S256x2048 .bf16) (r : Fin 256) (c : Fin 4096) :
    (yBlock h x w (ix2 r c) : EReal)
      = (∑ k : Fin 2048, clip 448 (xi h) (x (ix2 r k)) * w (ix2 k c) : EReal) * (xScale (row0 h) o * wScale (row1 h) o : EReal) := by
  refine (Product.plain_scaled (xScale (row0 h)) (wScale (row1 h)) broadcasts_S1x1_S256x4096 r c (xCodes h x) w).trans ?_
  refine congrArg (fun s : EReal => s * (xScale (row0 h) o * wScale (row1 h) o : EReal)) (Finset.sum_congr rfl fun k _ => ?_)
  exact congrArg (fun s : EReal => s * w (ix2 k c)) (xCodes_apply h x (ix2 r k))
theorem ref_y_apply (x : Vec Ideal S24576x2048 .bf16) (r : Fin 24576) (c : Fin 4096) :
    (ReferenceIdeal.Points.y x w h (ix2 r c) : EReal)
      = (∑ k : Fin 2048, clip 448 (xi h) (x (ix2 r k)) * w (ix2 k c) : EReal)
        * (ReferenceIdeal.Points.xScale h o * ReferenceIdeal.Points.wScale h o : EReal) := by
  refine (Product.plain_scaled (ReferenceIdeal.Points.xScale h) (ReferenceIdeal.Points.wScale h)
    ReferenceIdeal.Gen.broadcasts_S1x1_S24576x4096 r c (ReferenceIdeal.Points.xCodes x h) w).trans ?_
  refine congrArg (fun s : EReal => s * (ReferenceIdeal.Points.xScale h o * ReferenceIdeal.Points.wScale h o : EReal))
    (Finset.sum_congr rfl fun k _ => ?_)
  exact congrArg (fun s : EReal => s * w (ix2 k c)) (ref_xCodes_apply h x (ix2 r k))

theorem dxBlock_apply (dy : Vec Ideal S256x4096 .bf16) (r : Fin 256) (c : Fin 2048) :
    (dxBlock h dy w (ix2 r c) : EReal)
      = (∑ k : Fin 4096, clip 57344 (yi h) (dy (ix2 r k)) * w (ix2 c k) : EReal) * (dyScale (row2 h) o * wScale (row1 h) o : EReal) := by
  refine (Product.transposed_scaled (dyScale (row2 h)) (wScale (row1 h)) broadcasts_S1x1_S256x2048 r c (dyCodes h dy) w).trans ?_
  refine congrArg (fun s : EReal => s * (dyScale (row2 h) o * wScale (row1 h) o : EReal)) (Finset.sum_congr rfl fun k _ => ?_)
  exact congrArg (fun s : EReal => s * w (ix2 c k)) (dyCodes_apply h dy (ix2 r k))
theorem ref_dx_apply (dy : Vec Ideal S24576x4096 .bf16) (r : Fin 24576) (c : Fin 2048) :
    (ReferenceIdeal.Points.dx dy w h (ix2 r c) : EReal)
      = (∑ k : Fin 4096, clip 57344 (yi h) (dy (ix2 r k)) * w (ix2 c k) : EReal)
        * (ReferenceIdeal.Points.dyScale h o * ReferenceIdeal.Points.wScale h o : EReal) := by
  refine (Product.transposed_scaled (ReferenceIdeal.Points.dyScale h) (ReferenceIdeal.Points.wScale h)
    ReferenceIdeal.Gen.broadcasts_S1x1_S24576x2048 r c (ReferenceIdeal.Points.dyCodes dy h) w).trans ?_
  refine congrArg (fun s : EReal => s * (ReferenceIdeal.Points.dyScale h o * ReferenceIdeal.Points.wScale h o : EReal))
    (Finset.sum_congr rfl fun k _ => ?_)
  exact congrArg (fun s : EReal => s * w (ix2 c k)) (ref_dyCodes_apply h dy (ix2 r k))

end

variable (m : (ℓ : Loc nD τ sig) → Buf (Elt Ideal) ℓ) (c : Dev nD)

/-- Row `r` of block `n` is row `256 n + r`. -/
theorem rowAt_ix2 {w : ℕ} (n : ℕ) (hn : n < 96) (r : Fin 256) (k : Fin w) :
    rowAt n hn (ix2 r k) = ix2 (⟨256 * n + r.val, by have := r.isLt; omega⟩ : Fin 24576) k := by
  funext a
  match a with
  | ⟨0, _⟩ => rfl
  | ⟨1, _⟩ => rfl

theorem final_y_same : (dats m 0 c).arrAt 6 cfg0.N = ReferenceIdeal.Points.y (tokens m c) (wCodes m c) (hist m c) :=
  final_y m c _ fun t j => by
    obtain ⟨r, s, rfl⟩ : ∃ (r : Fin 256) (s : Fin 4096), j = ix2 r s := ⟨j 0, j 1, Product.ix2_eta j⟩
    rw [rowAt_ix2, yBlock_apply, ref_y_apply, xScale_same, wScale_same]
    simp only [xBlk_apply, rowAt_ix2]
theorem final_dx_same : (dats m 0 c).arrAt 7 cfg0.N = ReferenceIdeal.Points.dx (grads m c) (wCodes m c) (hist m c) :=
  final_dx m c _ fun t j => by
    obtain ⟨r, s, rfl⟩ : ∃ (r : Fin 256) (s : Fin 2048), j = ix2 r s := ⟨j 0, j 1, Product.ix2_eta j⟩
    rw [rowAt_ix2, dxBlock_apply, ref_dx_apply, dyScale_same, wScale_same]
    simp only [dyBlk_apply, rowAt_ix2]
theorem final_xCodes_same : (dats m 0 c).arrAt 9 cfg0.N = ReferenceIdeal.Points.xCodes (tokens m c) (hist m c) :=
  final_xCodes m c _ fun t j => by
    rw [xCodes_apply, ref_xCodes_apply, xBlk_apply]
theorem final_dyCodes_same : (dats m 0 c).arrAt 10 cfg0.N = ReferenceIdeal.Points.dyCodes (grads m c) (hist m c) :=
  final_dyCodes m c _ fun t j => by
    rw [dyCodes_apply, ref_dyCodes_apply, dyBlk_apply]

/-! ## The accumulated product -/

/-- Row `k`'s term of entry `(r, s)`, zero past the last row. -/
def term (r : Fin 2048) (s : Fin 4096) (k : ℕ) : EReal :=
  if hk : k < 24576 then clip 448 (xi (hist m c)) (tokens m c (ix2 ⟨k, hk⟩ r)) * clip 57344 (yi (hist m c)) (grads m c (ix2 ⟨k, hk⟩ s))
  else 0

/-- One point adds its 256 terms. -/
theorem dwStep_apply (n : ℕ) (hn : n < cfg0.N) (before : Vec Ideal S2048x4096 .f32) (r : Fin 2048) (s : Fin 4096) :
    (dwStep (hist m c) (xBlk m c n hn) (dyBlk m c n hn) before (ix2 r s) : EReal)
      = (before (ix2 r s) + ∑ k : Fin 256, term m c r s (256 * n + k.val) : EReal) := by
  have hN : n < 96 := lt_of_lt_of_eq hn N_0
  unfold dwStep k0_pay2
  rw [shapeCast_self]
  refine congrArg (fun v : EReal => (before (ix2 r s) + v : EReal)) ((Product.across_apply r s (xCodes (hist m c) (xBlk m c n hn))
    (dyCodes (hist m c) (dyBlk m c n hn))).trans (Finset.sum_congr rfl fun k _ => ?_))
  have hk : 256 * n + k.val < 24576 := by have := k.isLt; omega
  unfold term
  rw [dif_pos hk, xCodes_apply, dyCodes_apply, xBlk_apply, dyBlk_apply, rowAt_ix2, rowAt_ix2]

/-- After point `n` the accumulator holds the terms of the rows so far. -/
theorem dwAt_apply (n : ℕ) (hn : n < cfg0.N) (r : Fin 2048) (s : Fin 4096) :
    (dwAt m c n hn (ix2 r s) : EReal) = ∑ k ∈ Finset.range (256 * (n + 1)), term m c r s k := by
  induction n with
  | zero =>
    unfold dwAt
    rw [dwStep_apply, Product.sum_block]
    refine congrArg (fun v : EReal => v + ∑ k : Fin 256, term m c r s (256 * 0 + k.val)) ?_
    exact Ideal.ofBits_zero_f32
  | succ n ih =>
    unfold dwAt
    rw [dwStep_apply, ih, Product.sum_block _ 256 (n + 1)]

/-- The reference's product over all rows. -/
theorem ref_dw_apply (h : Vec Ideal S3x16 .f32) (x : Vec Ideal S24576x2048 .bf16) (dy : Vec Ideal S24576x4096 .bf16)
    (r : Fin 2048) (s : Fin 4096) : (ReferenceIdeal.Points.dw x dy h (ix2 r s) : EReal)
      = (∑ k : Fin 24576, clip 448 (xi h) (x (ix2 k r)) * clip 57344 (yi h) (dy (ix2 k s)) : EReal)
        * (ReferenceIdeal.Points.xScale h o * ReferenceIdeal.Points.dyScale h o : EReal) := by
  show (matmul (Product.acrossRows 2048 24576 4096) none (ReferenceIdeal.Points.xCodes x h) (ReferenceIdeal.Points.dyCodes dy h)
    (constant S2048x4096 .f32 0x00000000#32) (ix2 r s) : EReal) * (broadcastTo S2048x4096
      (mulf (ReferenceIdeal.Points.xScale h) (ReferenceIdeal.Points.dyScale h)) ReferenceIdeal.Gen.broadcasts_S1x1_S2048x4096 (ix2 r s) : EReal) = _
  rw [Product.across_apply, spread]
  refine congrArg (fun v : EReal => v * (ReferenceIdeal.Points.xScale h o * ReferenceIdeal.Points.dyScale h o : EReal))
    (Finset.sum_congr rfl fun k _ => ?_)
  rw [ref_xCodes_apply, ref_dyCodes_apply]

theorem final_dw_same : (dats m 0 c).arrAt 8 cfg0.N = ReferenceIdeal.Points.dw (tokens m c) (grads m c) (hist m c) := by
  rw [final_dw]
  funext j
  obtain ⟨r, s, rfl⟩ : ∃ (r : Fin 2048) (s : Fin 4096), j = ix2 r s := ⟨j 0, j 1, Product.ix2_eta j⟩
  rw [ref_dw_apply]
  unfold dwScaled k0_pay4
  rw [shapeCast_self]
  show (dwAt m c 95 last_lt (ix2 r s) : EReal) * (broadcastTo S2048x4096 (mulf (xScale (row0 (hist m c))) (dyScale (row2 (hist m c))))
    broadcasts_S1x1_S2048x4096 (ix2 r s) : EReal) = _
  rw [dwAt_apply, spread, xScale_same, dyScale_same, Finset.sum_range]
  refine congrArg (fun v : EReal => v * (ReferenceIdeal.Points.xScale (hist m c) o * ReferenceIdeal.Points.dyScale (hist m c) o : EReal))
    (Finset.sum_congr rfl fun k _ => ?_)
  unfold term
  rw [dif_pos k.isLt]

/-! ## The maxima and the new history -/

/-- A running maximum that starts at zero and advances block by block is at most `u` when `u` is not negative and bounds the
    magnitudes of the rows so far that share the entry's place among sixteen. -/
theorem running_le {w N : ℕ} (hN : N = 96) (X : Vec Ideal ⟨2, ![24576, w]⟩ .bf16) (blk : (n : ℕ) → n < N → Vec Ideal ⟨2, ![256, w]⟩ .bf16)
    (hb : ∀ n h i, blk n h i = X (rowAt n (lt_of_lt_of_eq h hN) i)) (z : Vec Ideal ⟨2, ![16, w]⟩ .bf16) (hz : ∀ i, (z i : EReal) = 0)
    (run : (n : ℕ) → n < N → Vec Ideal ⟨2, ![16, w]⟩ .bf16) (h0 : ∀ h, run 0 h = Absmax.advance (blk 0 h) z)
    (hs : ∀ n h, run (n + 1) h = Absmax.advance (blk (n + 1) h) (run n (Nat.lt_of_succ_lt h)))
    (n : ℕ) (h : n < N) (i : (⟨2, ![16, w]⟩ : Shape).Idx) (u : EReal) :
    (run n h i : EReal) ≤ u ↔ 0 ≤ u ∧ ∀ (t : ℕ) (ht : t < 96), t ≤ n → ∀ q : Fin 16, Absmax.mag (X (rowAt t ht (Absmax.at16 q i))) ≤ u := by
  induction n with
  | zero =>
    rw [h0, Absmax.advance_le, hz]
    refine and_congr_right fun _ => ⟨fun hu t ht h0 q => ?_, fun hu q => ?_⟩
    · obtain rfl : t = 0 := by omega
      have := hu q
      rwa [hb] at this
    · rw [hb]
      exact hu 0 (by decide) le_rfl q
  | succ n ih =>
    rw [hs, Absmax.advance_le, ih, and_assoc]
    refine and_congr_right fun _ => ⟨fun hu t ht h0 q => ?_, fun hu => ⟨fun t ht h0 => hu t ht (by omega), fun q => ?_⟩⟩
    · by_cases e : t ≤ n
      · exact hu.1 t ht e q
      · obtain rfl : t = n + 1 := by omega
        have := hu.2 q
        rwa [hb] at this
    · rw [hb]
      exact hu (n + 1) (lt_of_lt_of_eq h hN) le_rfl q

/-- So its largest entry after the last block is at most `u` when every magnitude is. -/
theorem running_total_le {w N : ℕ} (hw : 0 < w) (hN : N = 96) (X : Vec Ideal ⟨2, ![24576, w]⟩ .bf16)
    (blk : (n : ℕ) → n < N → Vec Ideal ⟨2, ![256, w]⟩ .bf16)
    (hb : ∀ n h i, blk n h i = X (rowAt n (lt_of_lt_of_eq h hN) i)) (z : Vec Ideal ⟨2, ![16, w]⟩ .bf16) (hz : ∀ i, (z i : EReal) = 0)
    (run : (n : ℕ) → n < N → Vec Ideal ⟨2, ![16, w]⟩ .bf16) (h0 : ∀ h, run 0 h = Absmax.advance (blk 0 h) z)
    (hs : ∀ n h, run (n + 1) h = Absmax.advance (blk (n + 1) h) (run n (Nat.lt_of_succ_lt h))) (h : 95 < N) (u : EReal) :
    (∀ i, (run 95 h i : EReal) ≤ u) ↔ ∀ i, Absmax.mag (X i) ≤ u := by
  constructor
  · intro hu i
    have hi : (i 0).val < 24576 := (i 0).isLt
    have hj : (i 1).val < w := (i 1).isLt
    have := ((running_le hN X blk hb z hz run h0 hs 95 h (fun a => match a with
      | ⟨0, _⟩ => ⟨(i 0).val % 16, Nat.mod_lt _ (by decide)⟩
      | ⟨1, _⟩ => ⟨(i 1).val, hj⟩) u).1 (hu _)).2 ((i 0).val / 256) (by omega) (by omega) ⟨(i 0).val % 256 / 16, by omega⟩
    convert this using 3
    funext a
    apply Fin.ext
    match a with
    | ⟨0, _⟩ => show (i 0).val = 256 * ((i 0).val / 256) + (16 * ((i 0).val % 256 / 16) + (i 0).val % 16); omega
    | ⟨1, _⟩ => rfl
  · intro hu i
    exact (running_le hN X blk hb z hz run h0 hs 95 h i u).2 ⟨(Absmax.mag_nonneg _).trans (hu (fun a => match a with
      | ⟨0, _⟩ => ⟨0, by show 0 < 24576; decide⟩
      | ⟨1, _⟩ => ⟨0, hw⟩)), fun t ht _ q => hu _⟩

theorem xMax_same : Absmax.total (F := Ideal) (extf .f32 (xMaxAt m c 95 last_lt) bitsLt_bf16_f32) shapeCasts_S16x2048_S1x16x2048 reduces_S1x16x2048_S1
    = Absmax.total (F := Ideal) (absf (extf .f32 (tokens m c) bitsLt_bf16_f32)) ReferenceIdeal.Gen.shapeCasts_S24576x2048_S1x24576x2048
        ReferenceIdeal.Gen.reduces_S1x24576x2048_S1 := by
  funext j
  refine eq_of_forall_ge_iff (α := EReal) fun u => ?_
  refine ((Absmax.total_le _ _ _ j u).trans ?_).trans (Absmax.total_le _ _ _ j u).symm
  exact running_total_le (by decide) N_0 (tokens m c) (xBlk m c) (fun n h i => xBlk_apply m c n h i) (k0_pay76 (F := Ideal))
    (fun i => by unfold k0_pay76; rw [shapeCast_self]; exact Ideal.ofBits_zero_bf16) (xMaxAt m c)
    (fun h => xMax_eq _ _) (fun n h => xMax_eq _ _) last_lt u
theorem dyMax_same : Absmax.total (F := Ideal) (extf .f32 (dyMaxAt m c 95 last_lt) bitsLt_bf16_f32) shapeCasts_S16x4096_S1x16x4096 reduces_S1x16x4096_S1
    = Absmax.total (F := Ideal) (absf (extf .f32 (grads m c) bitsLt_bf16_f32)) ReferenceIdeal.Gen.shapeCasts_S24576x4096_S1x24576x4096
        ReferenceIdeal.Gen.reduces_S1x24576x4096_S1 := by
  funext j
  refine eq_of_forall_ge_iff (α := EReal) fun u => ?_
  refine ((Absmax.total_le _ _ _ j u).trans ?_).trans (Absmax.total_le _ _ _ j u).symm
  exact running_total_le (by decide) N_0 (grads m c) (dyBlk m c) (fun n h i => dyBlk_apply m c n h i) (k0_pay77 (F := Ideal))
    (fun i => by unfold k0_pay77; rw [shapeCast_self]; exact Ideal.ofBits_zero_bf16) (dyMaxAt m c)
    (fun h => dyMax_eq _ _) (fun n h => dyMax_eq _ _) last_lt u

theorem final_newHist_same : (dats m 0 c).arrAt 14 cfg0.N
    = ReferenceIdeal.Points.newHist (tokens m c) (grads m c) (hist m c) (wAmax m c) (stepTab m c) := by
  rw [final_newHist, ref_newHist_eq]
  unfold histOut
  rw [newHist_eq, xMax_same, dyMax_same]

end Cert.KernelIdeal.Equation

end
-- ==== Proof.Step.Agree.lean ====
/- The second call and its reference, run from the same arguments, end with the same nine results. -/
module

public import proofs.«01_k».proof.Defs
public import proofs.«01_k».proof.Proof.Gen.KernelIdeal
public import proofs.«01_k».proof.Proof.Gen.ReferenceIdeal
public import proofs.«01_k».proof.Proof.Step.Equation

@[expose] public section

namespace Cert.KernelIdeal.Agree

open Idealize.ShloMosaic Idealize.ShloMosaic.TcCoe Idealize.SL.Sem
open Cert.KernelIdeal.Gen Cert.KernelIdeal.Step Cert.KernelIdeal.Equation

variable (m : (ℓ : Loc nD τ sig) → Buf (Elt Ideal) ℓ) (ρ : Dev nD → PrngReg)

/-- The kernel's run, every result array named by the reference's mathematics, the arguments unchanged. -/
theorem run : θ_run defs (onTc (τ := τ) (main (F := Ideal))) ⟨m, fun _ => 0, ρ⟩ fun r => ∀ c : Dev nD,
      r.2.mem ((c : Thread nD τ).loc main_v3_0) = ReferenceIdeal.Points.y (tokens m c) (wCodes m c) (hist m c)
      ∧ r.2.mem ((c : Thread nD τ).loc main_v3_1) = ReferenceIdeal.Points.dx (grads m c) (wCodes m c) (hist m c)
      ∧ r.2.mem ((c : Thread nD τ).loc main_v3_2) = ReferenceIdeal.Points.dw (tokens m c) (grads m c) (hist m c)
      ∧ r.2.mem ((c : Thread nD τ).loc main_v3_3) = ReferenceIdeal.Points.xCodes (tokens m c) (hist m c)
      ∧ r.2.mem ((c : Thread nD τ).loc main_v3_4) = ReferenceIdeal.Points.dyCodes (grads m c) (hist m c)
      ∧ r.2.mem ((c : Thread nD τ).loc main_v3_5) = ReferenceIdeal.Points.xScale (hist m c)
      ∧ r.2.mem ((c : Thread nD τ).loc main_v3_6) = ReferenceIdeal.Points.wScale (hist m c)
      ∧ r.2.mem ((c : Thread nD τ).loc main_v3_7) = ReferenceIdeal.Points.dyScale (hist m c)
      ∧ r.2.mem ((c : Thread nD τ).loc main_v3_8)
          = ReferenceIdeal.Points.newHist (tokens m c) (grads m c) (hist m c) (wAmax m c) (stepTab m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h0, h1, h2, h3, h4, h5, h6, h7, h8, k⟩ := h c
    exact ⟨h0.trans (final_y_same m c), h1.trans (final_dx_same m c), h2.trans (final_dw_same m c), h3.trans (final_xCodes_same m c),
      h4.trans (final_dyCodes_same m c), h5.trans ((final_xScale m c).trans (xScale_same (hist m c))),
      h6.trans ((final_wScale m c).trans (wScale_same (hist m c))), h7.trans ((final_dyScale m c).trans (dyScale_same (hist m c))),
      h8.trans (final_newHist_same m c), k⟩)
    (run_arrays m ρ)

/-- The kernel's nine results are the reference's, and both runs leave the arguments as they were. -/
theorem algebraic : @Cert.algebraic_KernelIdeal_ReferenceIdeal Cert.KernelIdeal.Gen.facts Cert.ReferenceIdeal.Gen.facts :=
  fun m ρ m' ρ' _ hag =>
    ⟨fun c => ReferenceIdeal.Points.y (tokens m c) (wCodes m c) (hist m c),
      fun c => ReferenceIdeal.Points.dx (grads m c) (wCodes m c) (hist m c),
      fun c => ReferenceIdeal.Points.dw (tokens m c) (grads m c) (hist m c),
      fun c => ReferenceIdeal.Points.xCodes (tokens m c) (hist m c),
      fun c => ReferenceIdeal.Points.dyCodes (grads m c) (hist m c),
      fun c => ReferenceIdeal.Points.xScale (hist m c),
      fun c => ReferenceIdeal.Points.wScale (hist m c),
      fun c => ReferenceIdeal.Points.dyScale (hist m c),
      fun c => ReferenceIdeal.Points.newHist (tokens m c) (grads m c) (hist m c) (wAmax m c) (stepTab m c), run m ρ,
      (θ_run _ _ _).mono (fun r h c => by
        obtain ⟨a0, a1, a2, a3, a4, a5⟩ := hag c
        have e0 : ReferenceIdeal.Final.tokens m' c = tokens m c := by
          unfold ReferenceIdeal.Final.tokens tokens; rw [a0]
        have e1 : ReferenceIdeal.Final.grads m' c = grads m c := by
          unfold ReferenceIdeal.Final.grads grads; rw [a1]
        have e2 : ReferenceIdeal.Final.wCodes m' c = wCodes m c := a2
        have e3 : ReferenceIdeal.Final.hist m' c = hist m c := a3
        have e4 : ReferenceIdeal.Final.wAmax m' c = wAmax m c := a4
        have e5 : ReferenceIdeal.Final.step m' c = stepTab m c := by
          rw [stepTab_eq]; unfold ReferenceIdeal.Final.step; rw [a5]
        have := h c
        rw [e0, e1, e2, e3, e4, e5] at this
        exact this)
        (ReferenceIdeal.Final.run m' ρ')⟩

end Cert.KernelIdeal.Agree
-- ==== Proof.lean ====
/-
  The proof of `Cert.Claim`: the frames, the two idealizations and the equations between kernel and reference, each from the
  module that proves it.
-/
module

public import proofs.«01_k».proof.Defs
public import proofs.«01_k».proof.Proof.Gen.Weight
public import proofs.«01_k».proof.Proof.Gen.Weight.Skeleton
public import proofs.«01_k».proof.Proof.Gen.Weight.Launch
public import proofs.«01_k».proof.Proof.Gen.Weight.Points
public import proofs.«01_k».proof.Proof.Gen.Weight.Frame
public import proofs.«01_k».proof.Proof.Gen.WeightIdeal
public import proofs.«01_k».proof.Proof.Gen.WeightIdeal.Skeleton
public import proofs.«01_k».proof.Proof.Gen.WeightIdeal.Launch
public import proofs.«01_k».proof.Proof.Gen.WeightIdeal.Points
public import proofs.«01_k».proof.Proof.Gen.WeightIdeal.Frame
public import proofs.«01_k».proof.Proof.Gen.WeightRefIdeal
public import proofs.«01_k».proof.Proof.Gen.WeightRefIdeal.Skeleton
public import proofs.«01_k».proof.Proof.Gen.WeightRefIdeal.Launch
public import proofs.«01_k».proof.Proof.Gen.WeightRefIdeal.Points
public import proofs.«01_k».proof.Proof.Gen.WeightRefIdeal.Frame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.WeightIdeal.Value
public import proofs.«01_k».proof.Proof.Gen.WeightRefIdeal.Value
public import proofs.«01_k».proof.Proof.Gen.ReferenceIdeal.Value
public import proofs.«01_k».proof.Proof.Weight.Agree
public import proofs.«01_k».proof.Proof.Step.Frame
public import proofs.«01_k».proof.Proof.Step.Printed
public import proofs.«01_k».proof.Proof.Step.Agree
public import Idealize.ShloMosaic.Adequacy
public import Idealize.ShloMosaic.Init

@[expose] public section

noncomputable section

namespace Cert.Proof

open Idealize.ShloMosaic Idealize.SL.Sem Cert.Weight

theorem claim : Cert.Claim :=
  ⟨Cert.Weight.Gen.facts, Cert.WeightIdeal.Gen.facts, Cert.WeightRefIdeal.Gen.facts, Cert.Kernel.Gen.facts,
    Cert.KernelIdeal.Gen.facts, Cert.ReferenceIdeal.Gen.facts,
    fun m ρ _ => Cert.Weight.Gen.frame m ρ,
    fun m ρ _ => Cert.WeightIdeal.Gen.frame m ρ,
    fun m ρ _ => Cert.WeightRefIdeal.Gen.frame m ρ,
    Cert.Kernel.Printed.frame,
    fun m ρ _ => Cert.KernelIdeal.Step.frame m ρ,
    fun m ρ _ => Cert.ReferenceIdeal.Gen.frame m ρ,
    trivial,
    Cert.WeightIdeal.Agree.algebraic,
    trivial,
    Cert.KernelIdeal.Agree.algebraic⟩

end Cert.Proof

end
